-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x65536 : Shape := ⟨3, ![8, 128, 65536]⟩
abbrev S8x3x65536 : Shape := ⟨3, ![8, 3, 65536]⟩
abbrev S16384 : Shape := ⟨1, ![16384]⟩
abbrev S8x128x16384 : Shape := ⟨3, ![8, 128, 16384]⟩
abbrev S8x3x16384 : Shape := ⟨3, ![8, 3, 16384]⟩
abbrev S65536 : Shape := ⟨1, ![65536]⟩
abbrev S2x16384 : Shape := ⟨2, ![2, 16384]⟩
abbrev S_ : Shape := ⟨0, ![]⟩
abbrev S1x1x16384 : Shape := ⟨3, ![1, 1, 16384]⟩
abbrev S1x16384 : Shape := ⟨2, ![1, 16384]⟩
abbrev S16 : Shape := ⟨1, ![16]⟩
abbrev S1x16 : Shape := ⟨2, ![1, 16]⟩

abbrev nBuf : Table → Nat
  | .hbm => 5
  | .local .scVector .vmem => 3
  | _ => 0

abbrev bufTy : (tb : Table) → Fin (nBuf tb) → BufTy
  | .hbm, ⟨0, _⟩ => ⟨S8x128x65536, .f32⟩
  | .hbm, ⟨1, _⟩ => ⟨S8x3x65536, .f32⟩
  | .hbm, ⟨2, _⟩ => ⟨S16384, .i32⟩
  | .hbm, ⟨3, _⟩ => ⟨S8x128x16384, .f32⟩
  | .hbm, ⟨4, _⟩ => ⟨S8x3x16384, .f32⟩
  | .local .scVector .vmem, ⟨0, _⟩ => ⟨S16384, .i32⟩
  | .local .scVector .vmem, ⟨1, _⟩ => ⟨S65536, .f32⟩
  | .local .scVector .vmem, ⟨2, _⟩ => ⟨S2x16384, .f32⟩
  | _, _ => ⟨S8x128x65536, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev main_arg0_scv : Ref sig .scVector := ⟨.hbm, 0, rfl⟩
abbrev main_arg1_scv : Ref sig .scVector := ⟨.hbm, 1, rfl⟩
abbrev main_c_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 : BitVec 1 :=
  let c0_i32 : BitVec 32 := 0#32
  let c32_i32_0 : BitVec 32 := 32#32
  let v4 : BitVec 1 := Scalar.cmpi .slt c0_i32 c32_i32_0
  let v5 : BitVec 32 := Scalar.extui v4
  let c0_i32_2 : BitVec 32 := 0#32
  let v6 : BitVec 1 := Scalar.cmpi .ne v5 c0_i32_2
  v6

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_21 : BitVec 32 := 32#32
  let v30 : BitVec 32 := Scalar.muli v1 c32_i32_21
  let c0_i32_1 : BitVec 32 := 0#32
  let v31 : BitVec 32 := Scalar.addi v30 c0_i32_1
  let c128_i32 : BitVec 32 := 128#32
  let v32 : BitVec 32 := Scalar.divsi v31 c128_i32
  let c128_i32_22 : BitVec 32 := 128#32
  let v33 : BitVec 32 := Scalar.remsi v31 c128_i32_22
  let c0_i32_24 : BitVec 32 := 0#32
  ![v32.toNat, v33.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_21 : BitVec 32 := 32#32
  let v30 : BitVec 32 := Scalar.muli v1 c32_i32_21
  let c0_i32_1 : BitVec 32 := 0#32
  let v31 : BitVec 32 := Scalar.addi v30 c0_i32_1
  let c128_i32 : BitVec 32 := 128#32
  let v32 : BitVec 32 := Scalar.divsi v31 c128_i32
  let c128_i32_22 : BitVec 32 := 128#32
  let v33 : BitVec 32 := Scalar.remsi v31 c128_i32_22
  let c16384_i32_27 : BitVec 32 := 16384#32
  ![v32.toNat, v33.toNat, 16384]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_21 : BitVec 32 := 32#32
  let v30 : BitVec 32 := Scalar.muli v1 c32_i32_21
  let c0_i32_1 : BitVec 32 := 0#32
  let v31 : BitVec 32 := Scalar.addi v30 c0_i32_1
  let c128_i32 : BitVec 32 := 128#32
  let v32 : BitVec 32 := Scalar.divsi v31 c128_i32
  let c128_i32_22 : BitVec 32 := 128#32
  let v33 : BitVec 32 := Scalar.remsi v31 c128_i32_22
  let c32768_i32_30 : BitVec 32 := 32768#32
  ![v32.toNat, v33.toNat, 32768]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_21 : BitVec 32 := 32#32
  let v30 : BitVec 32 := Scalar.muli v1 c32_i32_21
  let c0_i32_1 : BitVec 32 := 0#32
  let v31 : BitVec 32 := Scalar.addi v30 c0_i32_1
  let c128_i32 : BitVec 32 := 128#32
  let v32 : BitVec 32 := Scalar.divsi v31 c128_i32
  let c128_i32_22 : BitVec 32 := 128#32
  let v33 : BitVec 32 := Scalar.remsi v31 c128_i32_22
  let c49152_i32_33 : BitVec 32 := 49152#32
  ![v32.toNat, v33.toNat, 49152]
def k0_cond2 : BitVec 1 :=
  let c0_i32_3 : BitVec 32 := 0#32
  let c32_i32_4 : BitVec 32 := 32#32
  let v7 : BitVec 1 := Scalar.cmpi .sge c0_i32_3 c32_i32_4
  let v8 : BitVec 32 := Scalar.extui v7
  let c0_i32_5 : BitVec 32 := 0#32
  let v9 : BitVec 1 := Scalar.cmpi .ne v8 c0_i32_5
  v9

def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v30 : BitVec 32 := Scalar.divsi v1 c3_i32
  let c3_i32_21 : BitVec 32 := 3#32
  let v31 : BitVec 32 := Scalar.remsi v1 c3_i32_21
  let c0_i32_23 : BitVec 32 := 0#32
  ![v30.toNat, v31.toNat, 0]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v30 : BitVec 32 := Scalar.divsi v1 c3_i32
  let c3_i32_21 : BitVec 32 := 3#32
  let v31 : BitVec 32 := Scalar.remsi v1 c3_i32_21
  let c16384_i32_26 : BitVec 32 := 16384#32
  ![v30.toNat, v31.toNat, 16384]
def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v30 : BitVec 32 := Scalar.divsi v1 c3_i32
  let c3_i32_21 : BitVec 32 := 3#32
  let v31 : BitVec 32 := Scalar.remsi v1 c3_i32_21
  let c32768_i32_29 : BitVec 32 := 32768#32
  ![v30.toNat, v31.toNat, 32768]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v30 : BitVec 32 := Scalar.divsi v1 c3_i32
  let c3_i32_21 : BitVec 32 := 3#32
  let v31 : BitVec 32 := Scalar.remsi v1 c3_i32_21
  let c49152_i32_32 : BitVec 32 := 49152#32
  ![v30.toNat, v31.toNat, 49152]
@[reducible] def k0_t1_loop (i : grid0.Coords) : Scf.Loop 32 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_8 : BitVec 32 := 1#32
  ⟨c0_i32_7, v14, c1_i32_8⟩
@[reducible] def k0_t2_loop : Scf.Loop 32 :=
  let c0_i32_48 : BitVec 32 := 0#32
  let c1024_i32 : BitVec 32 := 1024#32
  let v58 : BitVec 32 := Scalar.addi c0_i32_48 c1024_i32
  let c1_i32_49 : BitVec 32 := 1#32
  ⟨c0_i32_48, v58, c1_i32_49⟩
def k0_off9 (k0_t2 : Fin k0_t2_loop.trips) : Fin 1 → Nat :=
  let c0_i32_58 : BitVec 32 := 0#32
  let c0_i32_48 : BitVec 32 := 0#32
  let c1_i32_49 : BitVec 32 := 1#32
  let arg14 : BitVec 32 := Scf.iv c0_i32_48 c1_i32_49 k0_t2
  let c1_i32_57 : BitVec 32 := 1#32
  let v69 : BitVec 32 := Scalar.muli arg14 c1_i32_57
  let v70 : BitVec 32 := Scalar.addi c0_i32_58 v69
  let c16_i32 : BitVec 32 := 16#32
  let v71 : BitVec 32 := Scalar.muli v70 c16_i32
  let v72 : Index := Scalar.indexCast v71
  ![v72.toNat]

def k0_chk1 (v73 : IVec S16 32) : Prop :=
  (∀ a x, ((![v73] : Fin 1 → IVec S16 32) a x).toNat < S65536.size a)
theorem k0_idx1_inb : ∀ (v73 : IVec S16 32) (k0_hw1 : k0_chk1 v73), ∀ a x, ((![v73] : Fin 1 → IVec S16 32) a x).toNat < S65536.size a := fun v73 k0_hw1 => k0_hw1
def k0_off10 (i : grid0.Coords) (k0_t1 : Fin (k0_t1_loop i).trips) (k0_t2 : Fin k0_t2_loop.trips) : Fin 2 → Nat :=
  let c0_i32_7 : BitVec 32 := 0#32
  let c1_i32_8 : BitVec 32 := 1#32
  let arg13 : BitVec 32 := Scf.iv c0_i32_7 c1_i32_8 k0_t1
  let c2_i32_21 : BitVec 32 := 2#32
  let v30 : BitVec 32 := Scalar.remsi arg13 c2_i32_21
  let v76 : Index := Scalar.indexCast v30
  let c0_i32_58 : BitVec 32 := 0#32
  let c0_i32_48 : BitVec 32 := 0#32
  let c1_i32_49 : BitVec 32 := 1#32
  let arg14 : BitVec 32 := Scf.iv c0_i32_48 c1_i32_49 k0_t2
  let c1_i32_57 : BitVec 32 := 1#32
  let v69 : BitVec 32 := Scalar.muli arg14 c1_i32_57
  let v70 : BitVec 32 := Scalar.addi c0_i32_58 v69
  let c16_i32_59 : BitVec 32 := 16#32
  let v75 : BitVec 32 := Scalar.muli v70 c16_i32_59
  let v77 : Index := Scalar.indexCast v75
  ![v76.toNat, v77.toNat]
def k0_cond6 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c2_i32_21 : BitVec 32 := 2#32
  let v30 : BitVec 32 := Scalar.remsi arg13 c2_i32_21
  let c0_i32_51 : BitVec 32 := 0#32
  let v59 : BitVec 1 := Scalar.cmpi .eq v30 c0_i32_51
  let v60 : BitVec 32 := Scalar.extui v59
  let c0_i32_52 : BitVec 32 := 0#32
  let v61 : BitVec 1 := Scalar.cmpi .ne v60 c0_i32_52
  v61

def k0_cond7 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c32_i32_57 : BitVec 32 := 32#32
  let v69 : BitVec 1 := Scalar.cmpi .slt arg13 c32_i32_57
  let v70 : BitVec 32 := Scalar.extui v69
  let c0_i32_58 : BitVec 32 := 0#32
  let v71 : BitVec 1 := Scalar.cmpi .ne v70 c0_i32_58
  v71

def k0_off11 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_61 : BitVec 32 := 32#32
  let v75 : BitVec 32 := Scalar.muli v1 c32_i32_61
  let c0_i32_7 : BitVec 32 := 0#32
  let c1_i32_8 : BitVec 32 := 1#32
  let arg13 : BitVec 32 := Scf.iv c0_i32_7 c1_i32_8 k0_t1
  let v76 : BitVec 32 := Scalar.addi v75 arg13
  let c128_i32 : BitVec 32 := 128#32
  let v77 : BitVec 32 := Scalar.divsi v76 c128_i32
  let c128_i32_62 : BitVec 32 := 128#32
  let v78 : BitVec 32 := Scalar.remsi v76 c128_i32_62
  let c0_i32_65 : BitVec 32 := 0#32
  ![v77.toNat, v78.toNat, 0]
def k0_cond8 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c32_i32_59 : BitVec 32 := 32#32
  let v72 : BitVec 1 := Scalar.cmpi .sge arg13 c32_i32_59
  let v73 : BitVec 32 := Scalar.extui v72
  let c0_i32_60 : BitVec 32 := 0#32
  let v74 : BitVec 1 := Scalar.cmpi .ne v73 c0_i32_60
  v74

def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v75 : BitVec 32 := Scalar.divsi v1 c3_i32
  let c3_i32_61 : BitVec 32 := 3#32
  let v76 : BitVec 32 := Scalar.remsi v1 c3_i32_61
  let c0_i32_64 : BitVec 32 := 0#32
  ![v75.toNat, v76.toNat, 0]
def k0_cond9 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c2_i32_21 : BitVec 32 := 2#32
  let v30 : BitVec 32 := Scalar.remsi arg13 c2_i32_21
  let c1_i32_53 : BitVec 32 := 1#32
  let v62 : BitVec 1 := Scalar.cmpi .eq v30 c1_i32_53
  let v63 : BitVec 32 := Scalar.extui v62
  let c0_i32_54 : BitVec 32 := 0#32
  let v64 : BitVec 1 := Scalar.cmpi .ne v63 c0_i32_54
  v64

def k0_cond10 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c32_i32_57 : BitVec 32 := 32#32
  let v69 : BitVec 1 := Scalar.cmpi .slt arg13 c32_i32_57
  let v70 : BitVec 32 := Scalar.extui v69
  let c0_i32_58 : BitVec 32 := 0#32
  let v71 : BitVec 1 := Scalar.cmpi .ne v70 c0_i32_58
  v71

def k0_off13 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_61 : BitVec 32 := 32#32
  let v75 : BitVec 32 := Scalar.muli v1 c32_i32_61
  let c0_i32_7 : BitVec 32 := 0#32
  let c1_i32_8 : BitVec 32 := 1#32
  let arg13 : BitVec 32 := Scf.iv c0_i32_7 c1_i32_8 k0_t1
  let v76 : BitVec 32 := Scalar.addi v75 arg13
  let c128_i32 : BitVec 32 := 128#32
  let v77 : BitVec 32 := Scalar.divsi v76 c128_i32
  let c128_i32_62 : BitVec 32 := 128#32
  let v78 : BitVec 32 := Scalar.remsi v76 c128_i32_62
  let c0_i32_65 : BitVec 32 := 0#32
  ![v77.toNat, v78.toNat, 0]
def k0_cond11 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c32_i32_59 : BitVec 32 := 32#32
  let v72 : BitVec 1 := Scalar.cmpi .sge arg13 c32_i32_59
  let v73 : BitVec 32 := Scalar.extui v72
  let c0_i32_60 : BitVec 32 := 0#32
  let v74 : BitVec 1 := Scalar.cmpi .ne v73 c0_i32_60
  v74

def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v75 : BitVec 32 := Scalar.divsi v1 c3_i32
  let c3_i32_61 : BitVec 32 := 3#32
  let v76 : BitVec 32 := Scalar.remsi v1 c3_i32_61
  let c0_i32_64 : BitVec 32 := 0#32
  ![v75.toNat, v76.toNat, 0]
def k0_cond12 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c1_i32_55 : BitVec 32 := 1#32
  let v65 : BitVec 32 := Scalar.addi arg13 c1_i32_55
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v66 : BitVec 1 := Scalar.cmpi .slt v65 v3
  let v67 : BitVec 32 := Scalar.extui v66
  let c0_i32_56 : BitVec 32 := 0#32
  let v68 : BitVec 1 := Scalar.cmpi .ne v67 c0_i32_56
  v68

def k0_cond13 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c1_i32_57 : BitVec 32 := 1#32
  let v69 : BitVec 32 := Scalar.addi arg13 c1_i32_57
  let c32_i32_58 : BitVec 32 := 32#32
  let v70 : BitVec 1 := Scalar.cmpi .slt v69 c32_i32_58
  let v71 : BitVec 32 := Scalar.extui v70
  let c0_i32_59 : BitVec 32 := 0#32
  let v72 : BitVec 1 := Scalar.cmpi .ne v71 c0_i32_59
  v72

def k0_off15 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c1_i32_8 : BitVec 32 := 1#32
  let arg13 : BitVec 32 := Scf.iv c0_i32_7 c1_i32_8 k0_t1
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c0_i32_65 : BitVec 32 := 0#32
  ![v78.toNat, v79.toNat, 0]
def k0_off16 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c1_i32_8 : BitVec 32 := 1#32
  let arg13 : BitVec 32 := Scf.iv c0_i32_7 c1_i32_8 k0_t1
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c16384_i32_68 : BitVec 32 := 16384#32
  ![v78.toNat, v79.toNat, 16384]
def k0_off17 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c1_i32_8 : BitVec 32 := 1#32
  let arg13 : BitVec 32 := Scf.iv c0_i32_7 c1_i32_8 k0_t1
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c32768_i32_71 : BitVec 32 := 32768#32
  ![v78.toNat, v79.toNat, 32768]
def k0_off18 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c1_i32_8 : BitVec 32 := 1#32
  let arg13 : BitVec 32 := Scf.iv c0_i32_7 c1_i32_8 k0_t1
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c49152_i32_74 : BitVec 32 := 49152#32
  ![v78.toNat, v79.toNat, 49152]
def k0_cond14 (i : grid0.Coords) (k0_t1 : Fin (k0_t1_loop i).trips) : BitVec 1 :=
  let c0_i32_7 : BitVec 32 := 0#32
  let c1_i32_8 : BitVec 32 := 1#32
  let arg13 : BitVec 32 := Scf.iv c0_i32_7 c1_i32_8 k0_t1
  let c1_i32_57 : BitVec 32 := 1#32
  let v69 : BitVec 32 := Scalar.addi arg13 c1_i32_57
  let c32_i32_60 : BitVec 32 := 32#32
  let v73 : BitVec 1 := Scalar.cmpi .sge v69 c32_i32_60
  let v74 : BitVec 32 := Scalar.extui v73
  let c0_i32_61 : BitVec 32 := 0#32
  let v75 : BitVec 1 := Scalar.cmpi .ne v74 c0_i32_61
  v75

def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c0_i32_64 : BitVec 32 := 0#32
  ![v76.toNat, v77.toNat, 0]
def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c16384_i32_67 : BitVec 32 := 16384#32
  ![v76.toNat, v77.toNat, 16384]
def k0_off21 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c32768_i32_70 : BitVec 32 := 32768#32
  ![v76.toNat, v77.toNat, 32768]
def k0_off22 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c49152_i32_73 : BitVec 32 := 49152#32
  ![v76.toNat, v77.toNat, 49152]
@[reducible] def k0_t3_loop (i : grid0.Coords) : Scf.Loop 32 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let v11 : BitVec 32 := Scalar.addi c0_i32_7 v10
  let c1_i32_9 : BitVec 32 := 1#32
  ⟨v14, v11, c1_i32_9⟩
@[reducible] def k0_t4_loop : Scf.Loop 32 :=
  let c0_i32_48 : BitVec 32 := 0#32
  let c1024_i32 : BitVec 32 := 1024#32
  let v58 : BitVec 32 := Scalar.addi c0_i32_48 c1024_i32
  let c1_i32_49 : BitVec 32 := 1#32
  ⟨c0_i32_48, v58, c1_i32_49⟩
def k0_off23 (k0_t4 : Fin k0_t4_loop.trips) : Fin 1 → Nat :=
  let c0_i32_58 : BitVec 32 := 0#32
  let c0_i32_48 : BitVec 32 := 0#32
  let c1_i32_49 : BitVec 32 := 1#32
  let arg14 : BitVec 32 := Scf.iv c0_i32_48 c1_i32_49 k0_t4
  let c1_i32_57 : BitVec 32 := 1#32
  let v69 : BitVec 32 := Scalar.muli arg14 c1_i32_57
  let v70 : BitVec 32 := Scalar.addi c0_i32_58 v69
  let c16_i32 : BitVec 32 := 16#32
  let v71 : BitVec 32 := Scalar.muli v70 c16_i32
  let v72 : Index := Scalar.indexCast v71
  ![v72.toNat]

def k0_chk2 (i : grid0.Coords) (k0_t3 : Fin (k0_t3_loop i).trips) (v73 : IVec S16 32) : Prop :=
  (∀ a x, ((![v73] : Fin 1 → IVec S16 32) a x).toNat < S65536.size a)
theorem k0_idx2_inb : ∀ (i : grid0.Coords) (k0_t3 : Fin (k0_t3_loop i).trips) (v73 : IVec S16 32) (k0_hw2 : k0_chk2 i k0_t3 v73), ∀ a x, ((![v73] : Fin 1 → IVec S16 32) a x).toNat < S65536.size a := fun i k0_t3 v73 k0_hw2 => k0_hw2
def k0_off24 (i : grid0.Coords) (k0_t3 : Fin (k0_t3_loop i).trips) (k0_t4 : Fin k0_t4_loop.trips) : Fin 2 → Nat :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c2_i32_21 : BitVec 32 := 2#32
  let v30 : BitVec 32 := Scalar.remsi arg13 c2_i32_21
  let v76 : Index := Scalar.indexCast v30
  let c0_i32_58 : BitVec 32 := 0#32
  let c0_i32_48 : BitVec 32 := 0#32
  let c1_i32_49 : BitVec 32 := 1#32
  let arg14 : BitVec 32 := Scf.iv c0_i32_48 c1_i32_49 k0_t4
  let c1_i32_57 : BitVec 32 := 1#32
  let v69 : BitVec 32 := Scalar.muli arg14 c1_i32_57
  let v70 : BitVec 32 := Scalar.addi c0_i32_58 v69
  let c16_i32_59 : BitVec 32 := 16#32
  let v75 : BitVec 32 := Scalar.muli v70 c16_i32_59
  let v77 : Index := Scalar.indexCast v75
  ![v76.toNat, v77.toNat]
def k0_cond18 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c2_i32_21 : BitVec 32 := 2#32
  let v30 : BitVec 32 := Scalar.remsi arg13 c2_i32_21
  let c0_i32_51 : BitVec 32 := 0#32
  let v59 : BitVec 1 := Scalar.cmpi .eq v30 c0_i32_51
  let v60 : BitVec 32 := Scalar.extui v59
  let c0_i32_52 : BitVec 32 := 0#32
  let v61 : BitVec 1 := Scalar.cmpi .ne v60 c0_i32_52
  v61

def k0_cond19 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c32_i32_57 : BitVec 32 := 32#32
  let v69 : BitVec 1 := Scalar.cmpi .slt arg13 c32_i32_57
  let v70 : BitVec 32 := Scalar.extui v69
  let c0_i32_58 : BitVec 32 := 0#32
  let v71 : BitVec 1 := Scalar.cmpi .ne v70 c0_i32_58
  v71

def k0_off25 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_61 : BitVec 32 := 32#32
  let v75 : BitVec 32 := Scalar.muli v1 c32_i32_61
  let c0_i32_7 : BitVec 32 := 0#32
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let v76 : BitVec 32 := Scalar.addi v75 arg13
  let c128_i32 : BitVec 32 := 128#32
  let v77 : BitVec 32 := Scalar.divsi v76 c128_i32
  let c128_i32_62 : BitVec 32 := 128#32
  let v78 : BitVec 32 := Scalar.remsi v76 c128_i32_62
  let c0_i32_65 : BitVec 32 := 0#32
  ![v77.toNat, v78.toNat, 0]
def k0_cond20 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c32_i32_59 : BitVec 32 := 32#32
  let v72 : BitVec 1 := Scalar.cmpi .sge arg13 c32_i32_59
  let v73 : BitVec 32 := Scalar.extui v72
  let c0_i32_60 : BitVec 32 := 0#32
  let v74 : BitVec 1 := Scalar.cmpi .ne v73 c0_i32_60
  v74

def k0_off26 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v75 : BitVec 32 := Scalar.divsi v1 c3_i32
  let c3_i32_61 : BitVec 32 := 3#32
  let v76 : BitVec 32 := Scalar.remsi v1 c3_i32_61
  let c0_i32_64 : BitVec 32 := 0#32
  ![v75.toNat, v76.toNat, 0]
def k0_cond21 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c2_i32_21 : BitVec 32 := 2#32
  let v30 : BitVec 32 := Scalar.remsi arg13 c2_i32_21
  let c1_i32_53 : BitVec 32 := 1#32
  let v62 : BitVec 1 := Scalar.cmpi .eq v30 c1_i32_53
  let v63 : BitVec 32 := Scalar.extui v62
  let c0_i32_54 : BitVec 32 := 0#32
  let v64 : BitVec 1 := Scalar.cmpi .ne v63 c0_i32_54
  v64

def k0_cond22 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c32_i32_57 : BitVec 32 := 32#32
  let v69 : BitVec 1 := Scalar.cmpi .slt arg13 c32_i32_57
  let v70 : BitVec 32 := Scalar.extui v69
  let c0_i32_58 : BitVec 32 := 0#32
  let v71 : BitVec 1 := Scalar.cmpi .ne v70 c0_i32_58
  v71

def k0_off27 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_61 : BitVec 32 := 32#32
  let v75 : BitVec 32 := Scalar.muli v1 c32_i32_61
  let c0_i32_7 : BitVec 32 := 0#32
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let v76 : BitVec 32 := Scalar.addi v75 arg13
  let c128_i32 : BitVec 32 := 128#32
  let v77 : BitVec 32 := Scalar.divsi v76 c128_i32
  let c128_i32_62 : BitVec 32 := 128#32
  let v78 : BitVec 32 := Scalar.remsi v76 c128_i32_62
  let c0_i32_65 : BitVec 32 := 0#32
  ![v77.toNat, v78.toNat, 0]
def k0_cond23 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c32_i32_59 : BitVec 32 := 32#32
  let v72 : BitVec 1 := Scalar.cmpi .sge arg13 c32_i32_59
  let v73 : BitVec 32 := Scalar.extui v72
  let c0_i32_60 : BitVec 32 := 0#32
  let v74 : BitVec 1 := Scalar.cmpi .ne v73 c0_i32_60
  v74

def k0_off28 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v75 : BitVec 32 := Scalar.divsi v1 c3_i32
  let c3_i32_61 : BitVec 32 := 3#32
  let v76 : BitVec 32 := Scalar.remsi v1 c3_i32_61
  let c0_i32_64 : BitVec 32 := 0#32
  ![v75.toNat, v76.toNat, 0]
def k0_cond24 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_55 : BitVec 32 := 1#32
  let v65 : BitVec 32 := Scalar.addi arg13 c1_i32_55
  let v66 : BitVec 1 := Scalar.cmpi .slt v65 v3
  let v67 : BitVec 32 := Scalar.extui v66
  let c0_i32_56 : BitVec 32 := 0#32
  let v68 : BitVec 1 := Scalar.cmpi .ne v67 c0_i32_56
  v68

def k0_cond25 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_57 : BitVec 32 := 1#32
  let v69 : BitVec 32 := Scalar.addi arg13 c1_i32_57
  let c32_i32_58 : BitVec 32 := 32#32
  let v70 : BitVec 1 := Scalar.cmpi .slt v69 c32_i32_58
  let v71 : BitVec 32 := Scalar.extui v70
  let c0_i32_59 : BitVec 32 := 0#32
  let v72 : BitVec 1 := Scalar.cmpi .ne v71 c0_i32_59
  v72

def k0_off29 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c0_i32_65 : BitVec 32 := 0#32
  ![v78.toNat, v79.toNat, 0]
def k0_off30 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c16384_i32_68 : BitVec 32 := 16384#32
  ![v78.toNat, v79.toNat, 16384]
def k0_off31 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c32768_i32_71 : BitVec 32 := 32768#32
  ![v78.toNat, v79.toNat, 32768]
def k0_off32 (i : grid0.Coords) (k0_t3 : Fin (k0_t3_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_62 : BitVec 32 := 32#32
  let v76 : BitVec 32 := Scalar.muli v1 c32_i32_62
  let c0_i32_7 : BitVec 32 := 0#32
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_57 : BitVec 32 := 1#32
  let v69 : BitVec 32 := Scalar.addi arg13 c1_i32_57
  let v77 : BitVec 32 := Scalar.addi v76 v69
  let c128_i32 : BitVec 32 := 128#32
  let v78 : BitVec 32 := Scalar.divsi v77 c128_i32
  let c128_i32_63 : BitVec 32 := 128#32
  let v79 : BitVec 32 := Scalar.remsi v77 c128_i32_63
  let c49152_i32_74 : BitVec 32 := 49152#32
  ![v78.toNat, v79.toNat, 49152]
def k0_cond26 (i : grid0.Coords) (k0_t3 : Fin (k0_t3_loop i).trips) : BitVec 1 :=
  let c0_i32_7 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24_i32 : BitVec 32 := 24#32
  let v2 : BitVec 1 := Scalar.cmpi .slt v1 c24_i32
  let c33_i32 : BitVec 32 := 33#32
  let c32_i32 : BitVec 32 := 32#32
  let v3 : BitVec 32 := Scalar.select v2 c33_i32 c32_i32
  let v10 : BitVec 32 := Scalar.subi v3 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg13 : BitVec 32 := Scf.iv v14 c1_i32_9 k0_t3
  let c1_i32_57 : BitVec 32 := 1#32
  let v69 : BitVec 32 := Scalar.addi arg13 c1_i32_57
  let c32_i32_60 : BitVec 32 := 32#32
  let v73 : BitVec 1 := Scalar.cmpi .sge v69 c32_i32_60
  let v74 : BitVec 32 := Scalar.extui v73
  let c0_i32_61 : BitVec 32 := 0#32
  let v75 : BitVec 1 := Scalar.cmpi .ne v74 c0_i32_61
  v75

def k0_off33 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c0_i32_64 : BitVec 32 := 0#32
  ![v76.toNat, v77.toNat, 0]
def k0_off34 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c16384_i32_67 : BitVec 32 := 16384#32
  ![v76.toNat, v77.toNat, 16384]
def k0_off35 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c32768_i32_70 : BitVec 32 := 32768#32
  ![v76.toNat, v77.toNat, 32768]
def k0_off36 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v76 : BitVec 32 := Scalar.divsi v1 c3_i32
  let c3_i32_62 : BitVec 32 := 3#32
  let v77 : BitVec 32 := Scalar.remsi v1 c3_i32_62
  let c49152_i32_73 : BitVec 32 := 49152#32
  ![v76.toNat, v77.toNat, 49152]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128x65536 : Shape := ⟨3, ![8, 128, 65536]⟩
abbrev S8x3x65536 : Shape := ⟨3, ![8, 3, 65536]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S8x3x16384 : Shape := ⟨3, ![8, 3, 16384]⟩
abbrev S8x128x16384 : Shape := ⟨3, ![8, 128, 16384]⟩

abbrev nBuf : Space → Nat
  | .hbm => 49
  | .vmem => 0
  | .smem => 0
  | _ => 0

abbrev bufTy : (tb : Table) → Fin (tcTables nBuf tb) → BufTy
  | .hbm, ⟨0, _⟩ => ⟨S8x128x65536, .f32⟩
  | .hbm, ⟨1, _⟩ => ⟨S8x3x65536, .f32⟩
  | .hbm, ⟨2, _⟩ => ⟨S16384, .i32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S8x3x16384, .f32⟩
  | .hbm, ⟨22, _⟩ => ⟨S8x3x16384, .i1⟩
  | .hbm, ⟨23, _⟩ => ⟨S_, .f32⟩
  | .hbm, ⟨24, _⟩ => ⟨S8x3x16384, .f32⟩
  | .hbm, ⟨25, _⟩ => ⟨S8x3x16384, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S8x128x16384, .f32⟩
  | .hbm, ⟨45, _⟩ => ⟨S8x128x16384, .i1⟩
  | .hbm, ⟨46, _⟩ => ⟨S_, .f32⟩
  | .hbm, ⟨47, _⟩ => ⟨S8x128x16384, .f32⟩
  | .hbm, ⟨48, _⟩ => ⟨S8x128x16384, .f32⟩
  | _, _ => ⟨S8x128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Base.lean ====
/-
  The set-up of the proof: the kernel's program as the launch theorem sees it, the resource algebra, the arrays, the
  pieces of the arrays a tile works on (sets of elements named by their row number and quarter), what the arrays hold at
  the end, and what the kernel's sliced and squeezed memrefs are in those words.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Batch
public import Idealize.ShloMosaic.Lib.Transfers
public import Idealize.ShloMosaic.Lib.ValueIdxCore
public import Idealize.ShloMosaic.Lib.ViewIndex
public import Idealize.ShloMosaic.Lib.Pipeline.Kit

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## Arrays, scratches, tiles -/

abbrev fLoc (d : Dev nD) : Loc nD τ sig := (SparseCore.T d).loc main_arg0
abbrev cLoc (d : Dev nD) : Loc nD τ sig := (SparseCore.T d).loc main_arg1
abbrev iLoc (d : Dev nD) : Loc nD τ sig := (SparseCore.T d).loc main_c
abbrev ofLoc (d : Dev nD) : Loc nD τ sig := (SparseCore.T d).loc main_v0_0
abbrev ocLoc (d : Dev nD) : Loc nD τ sig := (SparseCore.T d).loc main_v0_1

abbrev fV : Memref sig .scVector .hbm S8x128x65536 .f32 := Memref.whole main_arg0_scv
abbrev cV : Memref sig .scVector .hbm S8x3x65536 .f32 := Memref.whole main_arg1_scv
abbrev iV : Memref sig .scVector .hbm S16384 .i32 := Memref.whole main_c_scv
abbrev ofV : Memref sig .scVector .hbm S8x128x16384 .f32 := Memref.whole main_v0_0_scv
abbrev ocV : Memref sig .scVector .hbm S8x3x16384 .f32 := Memref.whole main_v0_1_scv
abbrev sI : Memref sig .scVector .vmem S16384 .i32 := Memref.whole cc0_scratch0
abbrev sR : Memref sig .scVector .vmem S65536 .f32 := Memref.whole cc0_scratch1
abbrev sO : Memref sig .scVector .vmem S2x16384 .f32 := Memref.whole cc0_scratch2

abbrev core (L : grid0.Coords) : Fin τ.nSC := (L 0).castLE hcore0
abbrev sub (L : grid0.Coords) : Fin τ.nSub := (L 1).castLE hsub0
/-- The tile's thread, and its number among the 32. -/
abbrev tl (d : Dev nD) (L : grid0.Coords) : Thread nD τ := V d (core L) (sub L)
def wid (L : grid0.Coords) : ℕ := 2 * (L 1).val + (L 0).val

theorem wid_lt : ∀ L : grid0.Coords, wid L < 32 := by decide +kernel
theorem trips_eq : ∀ L : grid0.Coords, (k0_t1_loop L).trips = if wid L < 24 then 33 else 32 := by decide +kernel

/-! ## Indices -/

/-- Element `y` of row `R` of the features (rows numbered over both leading axes), of the coordinates, of the results. -/
def ixF (R : ℕ) (y : Fin 65536) : S8x128x65536.Idx := ix3 ⟨R / 128 % 8, Nat.mod_lt _ (by decide)⟩ ⟨R % 128, Nat.mod_lt _ (by decide)⟩ y
def ixC (R : ℕ) (y : Fin 65536) : S8x3x65536.Idx := ix3 ⟨R / 3 % 8, Nat.mod_lt _ (by decide)⟩ ⟨R % 3, Nat.mod_lt _ (by decide)⟩ y

/-- The sample's place an index word names. -/
def pl (b : BitVec 32) : Fin 65536 := ⟨b.toNat % 65536, Nat.mod_lt _ (by decide)⟩

/-! ## Pieces -/

def tileF (w : ℕ) : Finset S8x128x65536.Idx := Finset.univ.filter fun x => (128 * (x 0).val + (x 1).val) / 32 = w
def rowF (R : ℕ) : Finset S8x128x65536.Idx := Finset.univ.filter fun x => 128 * (x 0).val + (x 1).val = R
def quF (R k : ℕ) : Finset S8x128x65536.Idx := Finset.univ.filter fun x => 128 * (x 0).val + (x 1).val = R ∧ (x 2).val / 16384 = k
def rowC (R : ℕ) : Finset S8x3x65536.Idx := Finset.univ.filter fun x => 3 * (x 0).val + (x 1).val = R
def quC (R k : ℕ) : Finset S8x3x65536.Idx := Finset.univ.filter fun x => 3 * (x 0).val + (x 1).val = R ∧ (x 2).val / 16384 = k
def tileOF (w : ℕ) : Finset S8x128x16384.Idx := Finset.univ.filter fun x => (128 * (x 0).val + (x 1).val) / 32 = w
def rowOF (R : ℕ) : Finset S8x128x16384.Idx := Finset.univ.filter fun x => 128 * (x 0).val + (x 1).val = R
def rowOC (R : ℕ) : Finset S8x3x16384.Idx := Finset.univ.filter fun x => 3 * (x 0).val + (x 1).val = R
def quR (k : ℕ) : Finset S65536.Idx := Finset.univ.filter fun x => (x 0).val / 16384 = k
def rowO (p : ℕ) : Finset S2x16384.Idx := Finset.univ.filter fun x => (x 0).val = p

/-! ## The kernel's memrefs -/

theorem reshape_1x1 (h : S16384.numel = S1x1x16384.numel) (x : S16384.Idx) :
    Shape.reshapeEquiv h x = ix3 (n0 := 1) (n1 := 1) (n2 := 16384) 0 0 (x 0) := by
  apply Shape.reshapeEquiv_eq_of_rowMajor
  rw [Shape.rowMajor_val_three, Shape.rowMajor_val_one]
  show ((0 : ℕ) * _ + 0) * _ + (x 0).val = (x 0).val
  omega
theorem reshape_1 (h : S16384.numel = S1x16384.numel) (x : S16384.Idx) :
    Shape.reshapeEquiv h x = ix2 (n0 := 1) (n1 := 16384) 0 (x 0) := by
  apply Shape.reshapeEquiv_eq_of_rowMajor
  rw [Shape.rowMajor_val_two, Shape.rowMajor_val_one]
  show (0 : ℕ) * _ + (x 0).val = (x 0).val
  omega

section Views

abbrev mF (off : Fin 3 → ℕ) (inb : ∀ a, off a + S1x1x16384.size a ≤ S8x128x65536.size a) : Memref sig .scVector .hbm S16384 .f32 :=
  (fV.slice (Rect.unit (s := S8x128x65536) off S1x1x16384.size inb) (fun _ => rfl)).squeeze S16384 squeezes_S1x1x16384_S16384
abbrev mC (off : Fin 3 → ℕ) (inb : ∀ a, off a + S1x1x16384.size a ≤ S8x3x65536.size a) : Memref sig .scVector .hbm S16384 .f32 :=
  (cV.slice (Rect.unit (s := S8x3x65536) off S1x1x16384.size inb) (fun _ => rfl)).squeeze S16384 squeezes_S1x1x16384_S16384
abbrev mOF (off : Fin 3 → ℕ) (inb : ∀ a, off a + S1x1x16384.size a ≤ S8x128x16384.size a) : Memref sig .scVector .hbm S16384 .f32 :=
  (ofV.slice (Rect.unit (s := S8x128x16384) off S1x1x16384.size inb) (fun _ => rfl)).squeeze S16384 squeezes_S1x1x16384_S16384
abbrev mOC (off : Fin 3 → ℕ) (inb : ∀ a, off a + S1x1x16384.size a ≤ S8x3x16384.size a) : Memref sig .scVector .hbm S16384 .f32 :=
  (ocV.slice (Rect.unit (s := S8x3x16384) off S1x1x16384.size inb) (fun _ => rfl)).squeeze S16384 squeezes_S1x1x16384_S16384
abbrev mR (off : Fin 1 → ℕ) (inb : ∀ a, off a + S16384.size a ≤ S65536.size a) : Memref sig .scVector .vmem S16384 .f32 :=
  sR.slice (Rect.unit (s := S65536) off S16384.size inb) (fun _ => rfl)
abbrev mO (off : Fin 2 → ℕ) (inb : ∀ a, off a + S1x16384.size a ≤ S2x16384.size a) : Memref sig .scVector .vmem S16384 .f32 :=
  (sO.slice (Rect.unit (s := S2x16384) off S1x16384.size inb) (fun _ => rfl)).squeeze S16384 squeezes_S1x16384_S16384

theorem fin3_all {P : Fin 3 → Prop} : (∀ a, P a) ↔ P 0 ∧ P 1 ∧ P 2 :=
  ⟨fun h => ⟨h 0, h 1, h 2⟩, fun ⟨h0, h1, h2⟩ a => by match a with | 0 => exact h0 | 1 => exact h1 | 2 => exact h2⟩
theorem fin2_all {P : Fin 2 → Prop} : (∀ a, P a) ↔ P 0 ∧ P 1 :=
  ⟨fun h => ⟨h 0, h 1⟩, fun ⟨h0, h1⟩ a => by match a with | 0 => exact h0 | 1 => exact h1⟩
theorem fin1_all {P : Fin 1 → Prop} : (∀ a, P a) ↔ P 0 :=
  ⟨fun h => h 0, fun h0 a => by match a with | 0 => exact h0⟩

theorem set_mF {off : Fin 3 → ℕ} {R k : ℕ} {inb} (h : off = ![R / 128, R % 128, 16384 * k]) : (mF off inb).view.set = quF R k := by
  subst h
  show (((fV.view.slice _).reshape S16384 _).set) = _
  rw [View.set_reshape]
  show ((View.whole _).slice _).set = _
  rw [View.set_slice_whole]
  ext x
  rw [Rect.mem_set_unit]
  refine fin3_all.trans ?_
  have h1 : (x 1).val < 128 := (x 1).isLt
  simp only [quF, Finset.mem_filter, Finset.mem_univ, true_and]
  show ((R / 128 ≤ (x 0).val ∧ (x 0).val < R / 128 + 1) ∧ (R % 128 ≤ (x 1).val ∧ (x 1).val < R % 128 + 1) ∧ (16384 * k ≤ (x 2).val ∧ (x 2).val < 16384 * k + 16384)) ↔ _
  omega
theorem set_mC {off : Fin 3 → ℕ} {R k : ℕ} {inb} (h : off = ![R / 3, R % 3, 16384 * k]) : (mC off inb).view.set = quC R k := by
  subst h
  show (((cV.view.slice _).reshape S16384 _).set) = _
  rw [View.set_reshape]
  show ((View.whole _).slice _).set = _
  rw [View.set_slice_whole]
  ext x
  rw [Rect.mem_set_unit]
  refine fin3_all.trans ?_
  have h1 : (x 1).val < 3 := (x 1).isLt
  simp only [quC, Finset.mem_filter, Finset.mem_univ, true_and]
  show ((R / 3 ≤ (x 0).val ∧ (x 0).val < R / 3 + 1) ∧ (R % 3 ≤ (x 1).val ∧ (x 1).val < R % 3 + 1) ∧ (16384 * k ≤ (x 2).val ∧ (x 2).val < 16384 * k + 16384)) ↔ _
  omega
theorem set_mOF {off : Fin 3 → ℕ} {R : ℕ} {inb} (h : off = ![R / 128, R % 128, 0]) : (mOF off inb).view.set = rowOF R := by
  subst h
  show (((ofV.view.slice _).reshape S16384 _).set) = _
  rw [View.set_reshape]
  show ((View.whole _).slice _).set = _
  rw [View.set_slice_whole]
  ext x
  rw [Rect.mem_set_unit]
  refine fin3_all.trans ?_
  have h1 : (x 1).val < 128 := (x 1).isLt
  have h2 : (x 2).val < 16384 := (x 2).isLt
  simp only [rowOF, Finset.mem_filter, Finset.mem_univ, true_and]
  show ((R / 128 ≤ (x 0).val ∧ (x 0).val < R / 128 + 1) ∧ (R % 128 ≤ (x 1).val ∧ (x 1).val < R % 128 + 1) ∧ (0 ≤ (x 2).val ∧ (x 2).val < 0 + 16384)) ↔ _
  omega
theorem set_mOC {off : Fin 3 → ℕ} {R : ℕ} {inb} (h : off = ![R / 3, R % 3, 0]) : (mOC off inb).view.set = rowOC R := by
  subst h
  show (((ocV.view.slice _).reshape S16384 _).set) = _
  rw [View.set_reshape]
  show ((View.whole _).slice _).set = _
  rw [View.set_slice_whole]
  ext x
  rw [Rect.mem_set_unit]
  refine fin3_all.trans ?_
  have h1 : (x 1).val < 3 := (x 1).isLt
  have h2 : (x 2).val < 16384 := (x 2).isLt
  simp only [rowOC, Finset.mem_filter, Finset.mem_univ, true_and]
  show ((R / 3 ≤ (x 0).val ∧ (x 0).val < R / 3 + 1) ∧ (R % 3 ≤ (x 1).val ∧ (x 1).val < R % 3 + 1) ∧ (0 ≤ (x 2).val ∧ (x 2).val < 0 + 16384)) ↔ _
  omega
theorem set_mR {off : Fin 1 → ℕ} {k : ℕ} {inb} (h : off = ![16384 * k]) : (mR off inb).view.set = quR k := by
  subst h
  show ((View.whole _).slice _).set = _
  rw [View.set_slice_whole]
  ext x
  rw [Rect.mem_set_unit]
  refine fin1_all.trans ?_
  simp only [quR, Finset.mem_filter, Finset.mem_univ, true_and]
  show (16384 * k ≤ (x 0).val ∧ (x 0).val < 16384 * k + 16384) ↔ _
  omega
theorem set_mO {off : Fin 2 → ℕ} {p : ℕ} {inb} (h : off = ![p, 0]) : (mO off inb).view.set = rowO p := by
  subst h
  show (((sO.view.slice _).reshape S16384 _).set) = _
  rw [View.set_reshape]
  show ((View.whole _).slice _).set = _
  rw [View.set_slice_whole]
  ext x
  rw [Rect.mem_set_unit]
  refine fin2_all.trans ?_
  have h2 : (x 1).val < 16384 := (x 1).isLt
  simp only [rowO, Finset.mem_filter, Finset.mem_univ, true_and]
  show ((p ≤ (x 0).val ∧ (x 0).val < p + 1) ∧ (0 ≤ (x 1).val ∧ (x 1).val < 0 + 16384)) ↔ _
  omega

theorem emb_mF {off : Fin 3 → ℕ} {R k : ℕ} {inb} (h : off = ![R / 128, R % 128, 16384 * k]) (hR : R < 1024) (x : S16384.Idx)
    (hk : 16384 * k + (x 0).val < 65536) : (mF off inb).view.emb x = ixF R ⟨16384 * k + (x 0).val, hk⟩ := by
  subst h
  show (Rect.unit (s := S8x128x65536) _ S1x1x16384.size inb).emb (Shape.reshapeEquiv _ x) = _
  rw [reshape_1x1]
  apply Shape.idx3_ext
  · show R / 128 + 1 * 0 = R / 128 % 8; omega
  · show R % 128 + 1 * 0 = R % 128; omega
  · show 16384 * k + 1 * (x 0).val = 16384 * k + (x 0).val; omega
theorem emb_mC {off : Fin 3 → ℕ} {R k : ℕ} {inb} (h : off = ![R / 3, R % 3, 16384 * k]) (hR : R < 24) (x : S16384.Idx)
    (hk : 16384 * k + (x 0).val < 65536) : (mC off inb).view.emb x = ixC R ⟨16384 * k + (x 0).val, hk⟩ := by
  subst h
  show (Rect.unit (s := S8x3x65536) _ S1x1x16384.size inb).emb (Shape.reshapeEquiv _ x) = _
  rw [reshape_1x1]
  apply Shape.idx3_ext
  · show R / 3 + 1 * 0 = R / 3 % 8; omega
  · show R % 3 + 1 * 0 = R % 3; omega
  · show 16384 * k + 1 * (x 0).val = 16384 * k + (x 0).val; omega
theorem emb_mOF {off : Fin 3 → ℕ} {R : ℕ} {inb} (h : off = ![R / 128, R % 128, 0]) (hR : R < 1024) (x : S16384.Idx) :
    (mOF off inb).view.emb x
      = ix3 (n0 := 8) (n1 := 128) (n2 := 16384) ⟨R / 128 % 8, Nat.mod_lt _ (by decide)⟩ ⟨R % 128, Nat.mod_lt _ (by decide)⟩ (x 0) := by
  subst h
  show (Rect.unit (s := S8x128x16384) _ S1x1x16384.size inb).emb (Shape.reshapeEquiv _ x) = _
  rw [reshape_1x1]
  apply Shape.idx3_ext
  · show R / 128 + 1 * 0 = R / 128 % 8; omega
  · show R % 128 + 1 * 0 = R % 128; omega
  · show 0 + 1 * (x 0).val = (x 0).val; omega
theorem emb_mOC {off : Fin 3 → ℕ} {R : ℕ} {inb} (h : off = ![R / 3, R % 3, 0]) (hR : R < 24) (x : S16384.Idx) :
    (mOC off inb).view.emb x
      = ix3 (n0 := 8) (n1 := 3) (n2 := 16384) ⟨R / 3 % 8, Nat.mod_lt _ (by decide)⟩ ⟨R % 3, Nat.mod_lt _ (by decide)⟩ (x 0) := by
  subst h
  show (Rect.unit (s := S8x3x16384) _ S1x1x16384.size inb).emb (Shape.reshapeEquiv _ x) = _
  rw [reshape_1x1]
  apply Shape.idx3_ext
  · show R / 3 + 1 * 0 = R / 3 % 8; omega
  · show R % 3 + 1 * 0 = R % 3; omega
  · show 0 + 1 * (x 0).val = (x 0).val; omega
theorem emb_mR {off : Fin 1 → ℕ} {k : ℕ} {inb} (h : off = ![16384 * k]) (x : S16384.Idx)
    (hk : 16384 * k + (x 0).val < 65536) : (mR off inb).view.emb x = ix1 (n := 65536) ⟨16384 * k + (x 0).val, hk⟩ := by
  subst h
  show (Rect.unit (s := S65536) _ S16384.size inb).emb x = _
  apply Shape.idx1_ext
  show 16384 * k + 1 * (x 0).val = 16384 * k + (x 0).val; omega
theorem emb_mO {off : Fin 2 → ℕ} {p : ℕ} {inb} (h : off = ![p, 0]) (hp : p < 2) (x : S16384.Idx) :
    (mO off inb).view.emb x = ix2 (n0 := 2) (n1 := 16384) ⟨p, hp⟩ (x 0) := by
  subst h
  show (Rect.unit (s := S2x16384) _ S1x16384.size inb).emb (Shape.reshapeEquiv _ x) = _
  rw [reshape_1]
  funext a
  match a with
  | 0 => apply Fin.ext; show p + 1 * 0 = p; omega
  | 1 => apply Fin.ext; show 0 + 1 * (x 0).val = (x 0).val; omega

end Views

/-! ## The contents: a destination row's source row, its sample, the results -/

section Values

variable (mf : S8x128x65536.Idx → F .f32) (mc : S8x3x65536.Idx → F .f32) (X : S16384.Idx → BitVec 32)

/-- The source row tile `w` reads on trip `r`: 32 rows of the features, then the one row of the coordinates. -/
def srcRow (w r : ℕ) (y : S65536.Idx) : F .f32 := if r < 32 then mf (ixF (32 * w + r) (y 0)) else mc (ixC w (y 0))

/-- That row at the sample's places, as the row of the output scratch that holds it. -/
def smpRow (w r : ℕ) (x : S2x16384.Idx) : F .f32 := srcRow mf mc w r (ix1 (n := 65536) (pl (X (ix1 (n := 16384) (x 1)))))

/-- The results: the features and the coordinates at the sample's places. -/
def outF (x : S8x128x16384.Idx) : F .f32 := mf (ix3 (n0 := 8) (n1 := 128) (n2 := 65536) (x 0) (x 1) (pl (X (ix1 (n := 16384) (x 2)))))
def outC (x : S8x3x16384.Idx) : F .f32 := mc (ix3 (n0 := 8) (n1 := 3) (n2 := 65536) (x 0) (x 1) (pl (X (ix1 (n := 16384) (x 2)))))

/-- A quarter row landed in the row scratch. -/
theorem land_F {off : Fin 3 → ℕ} {off' : Fin 1 → ℕ} {w r k : ℕ} {inb inb'} (h : off = ![(32 * w + r) / 128, (32 * w + r) % 128, 16384 * k])
    (h' : off' = ![16384 * k]) (hw : w < 32) (hr : r < 32) (hk : k < 4) (fd : S65536.Idx → F .f32) :
    ∀ y ∈ (mR off' inb').view.set, (mR off' inb').view.write (Elt F) fd ((mF off inb).view.read (Elt F) mf) Finset.univ y = srcRow mf mc w r y := by
  intro y hy
  obtain ⟨x, -, rfl⟩ := Finset.mem_map.mp hy
  have hx : (x 0).val < 16384 := (x 0).isLt
  rw [View.write_emb_of_mem _ _ (Finset.mem_univ _)]
  refine (cast_eq _ _).trans ?_
  rw [View.read_apply]
  refine (cast_eq _ _).trans ?_
  rw [emb_mF h (by omega) x (by omega), emb_mR h' x (by omega), srcRow, if_pos hr]
theorem land_C {off : Fin 3 → ℕ} {off' : Fin 1 → ℕ} {w r k : ℕ} {inb inb'} (h : off = ![w / 3, w % 3, 16384 * k])
    (h' : off' = ![16384 * k]) (hw : w < 24) (hr : ¬ r < 32) (hk : k < 4) (fd : S65536.Idx → F .f32) :
    ∀ y ∈ (mR off' inb').view.set, (mR off' inb').view.write (Elt F) fd ((mC off inb).view.read (Elt F) mc) Finset.univ y = srcRow mf mc w r y := by
  intro y hy
  obtain ⟨x, -, rfl⟩ := Finset.mem_map.mp hy
  have hx : (x 0).val < 16384 := (x 0).isLt
  rw [View.write_emb_of_mem _ _ (Finset.mem_univ _)]
  refine (cast_eq _ _).trans ?_
  rw [View.read_apply]
  refine (cast_eq _ _).trans ?_
  rw [emb_mC h (by omega) x (by omega), emb_mR h' x (by omega), srcRow, if_neg hr]

/-- A sampled row written out. -/
theorem land_OF {off : Fin 3 → ℕ} {off' : Fin 2 → ℕ} {w r p : ℕ} {inb inb'} (h : off = ![(32 * w + r) / 128, (32 * w + r) % 128, 0])
    (h' : off' = ![p, 0]) (hw : w < 32) (hr : r < 32) (hp : p < 2) (fd : S8x128x16384.Idx → F .f32) :
    ∀ y ∈ (mOF off inb).view.set,
      (mOF off inb).view.write (Elt F) fd ((mO off' inb').view.read (Elt F) (smpRow mf mc X w r)) Finset.univ y = outF mf X y := by
  intro y hy
  obtain ⟨x, -, rfl⟩ := Finset.mem_map.mp hy
  rw [View.write_emb_of_mem _ _ (Finset.mem_univ _)]
  refine (cast_eq _ _).trans ?_
  rw [View.read_apply]
  refine (cast_eq _ _).trans ?_
  rw [emb_mOF h (by omega) x, emb_mO h' hp x, smpRow, srcRow, if_pos hr]
  rfl
theorem land_OC {off : Fin 3 → ℕ} {off' : Fin 2 → ℕ} {w r p : ℕ} {inb inb'} (h : off = ![w / 3, w % 3, 0])
    (h' : off' = ![p, 0]) (hw : w < 24) (hr : ¬ r < 32) (hp : p < 2) (fd : S8x3x16384.Idx → F .f32) :
    ∀ y ∈ (mOC off inb).view.set,
      (mOC off inb).view.write (Elt F) fd ((mO off' inb').view.read (Elt F) (smpRow mf mc X w r)) Finset.univ y = outC mc X y := by
  intro y hy
  obtain ⟨x, -, rfl⟩ := Finset.mem_map.mp hy
  rw [View.write_emb_of_mem _ _ (Finset.mem_univ _)]
  refine (cast_eq _ _).trans ?_
  rw [View.read_apply]
  refine (cast_eq _ _).trans ?_
  rw [emb_mOC h hw x, emb_mO h' hp x, smpRow, srcRow, if_neg hr]
  rfl

end Values

end Cert.Proof.Pool
-- ==== Proof.Stage.lean ====
/-
  What a tile of the kernel holds between its steps, and its transfers one by one: the four quarters of a source row
  started on one semaphore and waited for, a sampled row sent out and waited for.
-/
module

public import proofs.«01_k».proof.Proof.Base

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## Four disjoint pieces out of a set, and back -/

section Four

variable {ℓ : Loc nD τ sig} {f : Buf (Elt F) ℓ} {S q0 q1 q2 q3 : Finset (Idx ℓ)}

theorem four_split (h0 : q0 ⊆ S) (h1 : q1 ⊆ S \ q0) (h2 : q2 ⊆ (S \ q0) \ q1) (h3 : q3 ⊆ ((S \ q0) \ q1) \ q2) :
    (ℓ ↦[S]{fullShare} f : sProp 𝕄) ⊢ iprop((ℓ ↦[q0]{fullShare} f) ∗ (ℓ ↦[q1]{fullShare} f) ∗ (ℓ ↦[q2]{fullShare} f) ∗ (ℓ ↦[q3]{fullShare} f)
      ∗ ℓ ↦[(((S \ q0) \ q1) \ q2) \ q3]{fullShare} f) := by
  iintro H
  ihave H := (pointsTo_split_subset h0).1 $$ H
  icases H with ⟨H0, H⟩
  ihave H := (pointsTo_split_subset h1).1 $$ H
  icases H with ⟨H1, H⟩
  ihave H := (pointsTo_split_subset h2).1 $$ H
  icases H with ⟨H2, H⟩
  ihave H := (pointsTo_split_subset h3).1 $$ H
  icases H with ⟨H3, H⟩
  isplitl [H0]; · iexact H0
  isplitl [H1]; · iexact H1
  isplitl [H2]; · iexact H2
  isplitl [H3]; · iexact H3
  iexact H

theorem four_join (h0 : q0 ⊆ S) (h1 : q1 ⊆ S \ q0) (h2 : q2 ⊆ (S \ q0) \ q1) (h3 : q3 ⊆ ((S \ q0) \ q1) \ q2) :
    iprop((ℓ ↦[q0]{fullShare} f) ∗ (ℓ ↦[q1]{fullShare} f) ∗ (ℓ ↦[q2]{fullShare} f) ∗ (ℓ ↦[q3]{fullShare} f)
      ∗ ℓ ↦[(((S \ q0) \ q1) \ q2) \ q3]{fullShare} f) ⊢ (ℓ ↦[S]{fullShare} f : sProp 𝕄) := by
  iintro ⟨H0, H1, H2, H3, H⟩
  iapply (pointsTo_split_subset h0).2
  isplitl [H0]; · iexact H0
  iapply (pointsTo_split_subset h1).2
  isplitl [H1]; · iexact H1
  iapply (pointsTo_split_subset h2).2
  isplitl [H2]; · iexact H2
  iapply (pointsTo_split_subset h3).2
  isplitl [H3]; · iexact H3
  iexact H

end Four

theorem quF_sub {w r : ℕ} (hr : r < 32) :
    quF (32 * w + r) 0 ⊆ tileF w ∧ quF (32 * w + r) 1 ⊆ tileF w \ quF (32 * w + r) 0
      ∧ quF (32 * w + r) 2 ⊆ (tileF w \ quF (32 * w + r) 0) \ quF (32 * w + r) 1
      ∧ quF (32 * w + r) 3 ⊆ ((tileF w \ quF (32 * w + r) 0) \ quF (32 * w + r) 1) \ quF (32 * w + r) 2 := by
  refine ⟨?_, ?_, ?_, ?_⟩ <;> intro x <;> simp only [quF, tileF, Finset.mem_sdiff, Finset.mem_filter, Finset.mem_univ, true_and] <;> omega
theorem quC_sub (w : ℕ) :
    quC w 0 ⊆ rowC w ∧ quC w 1 ⊆ rowC w \ quC w 0 ∧ quC w 2 ⊆ (rowC w \ quC w 0) \ quC w 1
      ∧ quC w 3 ⊆ ((rowC w \ quC w 0) \ quC w 1) \ quC w 2 := by
  refine ⟨?_, ?_, ?_, ?_⟩ <;> intro x <;> simp only [quC, rowC, Finset.mem_sdiff, Finset.mem_filter, Finset.mem_univ, true_and] <;> omega
theorem quR_sub :
    quR 0 ⊆ Finset.univ ∧ quR 1 ⊆ Finset.univ \ quR 0 ∧ quR 2 ⊆ (Finset.univ \ quR 0) \ quR 1
      ∧ quR 3 ⊆ ((Finset.univ \ quR 0) \ quR 1) \ quR 2 := by
  refine ⟨?_, ?_, ?_, ?_⟩ <;> intro x <;> simp only [quR, Finset.mem_sdiff, Finset.mem_filter, Finset.mem_univ, true_and, implies_true] <;> omega
theorem quR_rest : (((Finset.univ \ quR 0) \ quR 1) \ quR 2) \ quR 3 = ∅ := by
  ext x
  have h : (x 0).val < 65536 := (x 0).isLt
  simp only [quR, Finset.mem_sdiff, Finset.mem_filter, Finset.mem_univ, true_and, Finset.notMem_empty, iff_false]
  omega

/-! ## What a tile holds -/

section Tile

variable (d : Dev nD) (L : grid0.Coords)
variable (mf : S8x128x65536.Idx → F .f32) (mc : S8x3x65536.Idx → F .f32) (X : S16384.Idx → BitVec 32)
variable (gf : S8x128x16384.Idx → F .f32) (gc : S8x3x16384.Idx → F .f32)

abbrev rLoc : Loc nD τ sig := (tl d L).loc cc0_scratch1
abbrev oLoc : Loc nD τ sig := (tl d L).loc cc0_scratch2
abbrev xLoc : Loc nD τ sig := (tl d L).loc cc0_scratch0

/-- The credit of a quarter landing in the row scratch, of a row landing in a result. -/
abbrev NQ : ℕ := sig.dmaCredit .scVector (Kind.scVector.table .vmem) (cc0_scratch1 : Ref sig .scVector).idx S16384 .f32
abbrev NO : ℕ := sig.dmaCredit .scVector (Kind.scVector.table .hbm) (main_v0_0_scv : Ref sig .scVector).idx S16384 .f32

theorem NQ_pos : 0 < NQ := sig.dmaCredit_pos _ _ _ _ _ (by decide)
theorem NO_pos : 0 < NO := sig.dmaCredit_pos _ _ _ _ _ (by decide)

/-- Quarter `k` of the source row of trip `r`. -/
def srcPt (r k : ℕ) : sProp 𝕄 :=
  if r < 32 then fLoc d ↦[quF (32 * wid L + r) k]{fullShare} mf else cLoc d ↦[quC (wid L) k]{fullShare} mc

/-- The tile's share of the sources without that row. -/
def srcRest (r : ℕ) : sProp 𝕄 :=
  if r < 32 then
    iprop((fLoc d ↦[(((tileF (wid L) \ quF (32 * wid L + r) 0) \ quF (32 * wid L + r) 1) \ quF (32 * wid L + r) 2) \ quF (32 * wid L + r) 3]{fullShare} mf)
      ∗ cLoc d ↦[rowC (wid L)]{fullShare} mc)
  else
    iprop((fLoc d ↦[tileF (wid L)]{fullShare} mf)
      ∗ cLoc d ↦[(((rowC (wid L) \ quC (wid L) 0) \ quC (wid L) 1) \ quC (wid L) 2) \ quC (wid L) 3]{fullShare} mc)

/-- The tile's share of the sources: its 32 rows of the features, its row of the coordinates. -/
def srcAll : sProp 𝕄 := iprop((fLoc d ↦[tileF (wid L)]{fullShare} mf) ∗ cLoc d ↦[rowC (wid L)]{fullShare} mc)

theorem src_split (r : ℕ) : srcAll d L mf mc
    ⊢ iprop(srcPt d L mf mc r 0 ∗ srcPt d L mf mc r 1 ∗ srcPt d L mf mc r 2 ∗ srcPt d L mf mc r 3 ∗ srcRest d L mf mc r) := by
  unfold srcAll srcPt srcRest
  by_cases hr : r < 32
  · simp only [if_pos hr]
    obtain ⟨h0, h1, h2, h3⟩ := quF_sub (w := wid L) hr
    iintro ⟨HF, HC⟩
    ihave H := (four_split (ℓ := fLoc d) h0 h1 h2 h3) $$ HF
    icases H with ⟨H0, H1, H2, H3, H⟩
    isplitl [H0]; · iexact H0
    isplitl [H1]; · iexact H1
    isplitl [H2]; · iexact H2
    isplitl [H3]; · iexact H3
    isplitl [H]; · iexact H
    iexact HC
  · simp only [if_neg hr]
    obtain ⟨h0, h1, h2, h3⟩ := quC_sub (wid L)
    iintro ⟨HF, HC⟩
    ihave H := (four_split (ℓ := cLoc d) h0 h1 h2 h3) $$ HC
    icases H with ⟨H0, H1, H2, H3, H⟩
    isplitl [H0]; · iexact H0
    isplitl [H1]; · iexact H1
    isplitl [H2]; · iexact H2
    isplitl [H3]; · iexact H3
    isplitl [HF]; · iexact HF
    iexact H

theorem src_join (r : ℕ) :
    iprop(srcPt d L mf mc r 0 ∗ srcPt d L mf mc r 1 ∗ srcPt d L mf mc r 2 ∗ srcPt d L mf mc r 3 ∗ srcRest d L mf mc r) ⊢ srcAll d L mf mc := by
  unfold srcAll srcPt srcRest
  by_cases hr : r < 32
  · simp only [if_pos hr]
    obtain ⟨h0, h1, h2, h3⟩ := quF_sub (w := wid L) hr
    iintro ⟨H0, H1, H2, H3, H, HC⟩
    isplitr [HC]
    · iapply (four_join (ℓ := fLoc d) h0 h1 h2 h3)
      isplitl [H0]; · iexact H0
      isplitl [H1]; · iexact H1
      isplitl [H2]; · iexact H2
      isplitl [H3]; · iexact H3
      iexact H
    · iexact HC
  · simp only [if_neg hr]
    obtain ⟨h0, h1, h2, h3⟩ := quC_sub (wid L)
    iintro ⟨H0, H1, H2, H3, HF, H⟩
    isplitl [HF]; · iexact HF
    iapply (four_join (ℓ := cLoc d) h0 h1 h2 h3)
    isplitl [H0]; · iexact H0
    isplitl [H1]; · iexact H1
    isplitl [H2]; · iexact H2
    isplitl [H3]; · iexact H3
    iexact H

/-- What the landing of quarter `k` of trip `r`'s source row hands back. -/
def deliv (r : ℕ) (k : Fin 4) : sProp 𝕄 :=
  iprop((rLoc d L ↦[quR k.val]{fullShare} srcRow mf mc (wid L) r) ∗ srcPt d L mf mc r k.val)

instance srcPt_storable (r k : ℕ) : Storable (upEmb : UEmb _ 𝕄) (srcPt d L mf mc r k) := by unfold srcPt; split <;> infer_instance
instance deliv_storable (r : ℕ) (k : Fin 4) : Storable (upEmb : UEmb _ 𝕄) (deliv d L mf mc r k) := by unfold deliv; infer_instance

abbrev inCell : GSem nD τ sig := (tl d L, .dma cc0_scratch3.sem)

/-- The batch of the four quarters of trip `r`'s source row, `j` of them started. -/
abbrev inBatch (r j u : ℕ) : sProp 𝕄 :=
  Transfers.Batch (EC (F := F)) (tl d L) (.dma cc0_scratch3.sem) (none : HIx 1) NQ (deliv d L mf mc r) j u

/-- Trip `r`'s source row on its way into the row scratch. -/
def loading (r : ℕ) : sProp 𝕄 := iprop(inBatch d L mf mc r 4 0 ∗ srcRest d L mf mc r)

/-- The row scratch idle. -/
def idle : sProp 𝕄 := iprop(srcAll d L mf mc ∗ (∃ f, rLoc d L ↦{fullShare} f) ∗ semVal (inCell d L) 0)

/-- The row scratch whole from its quarters. -/
theorem row_split (f : Buf (Elt F) (rLoc d L)) : (rLoc d L ↦{fullShare} f : sProp 𝕄)
    ⊢ iprop((rLoc d L ↦[quR 0]{fullShare} f) ∗ (rLoc d L ↦[quR 1]{fullShare} f) ∗ (rLoc d L ↦[quR 2]{fullShare} f) ∗ (rLoc d L ↦[quR 3]{fullShare} f)) := by
  obtain ⟨h0, h1, h2, h3⟩ := quR_sub
  iintro H
  ihave H := (four_split (ℓ := rLoc d L) h0 h1 h2 h3) $$ H
  icases H with ⟨H0, H1, H2, H3, -⟩
  isplitl [H0]; · iexact H0
  isplitl [H1]; · iexact H1
  isplitl [H2]; · iexact H2
  iexact H3
theorem row_join (f : Buf (Elt F) (rLoc d L)) :
    iprop((rLoc d L ↦[quR 0]{fullShare} f) ∗ (rLoc d L ↦[quR 1]{fullShare} f) ∗ (rLoc d L ↦[quR 2]{fullShare} f) ∗ (rLoc d L ↦[quR 3]{fullShare} f))
      ⊢ (rLoc d L ↦{fullShare} f : sProp 𝕄) := by
  obtain ⟨h0, h1, h2, h3⟩ := quR_sub
  iintro ⟨H0, H1, H2, H3⟩
  iapply (four_join (ℓ := rLoc d L) h0 h1 h2 h3)
  isplitl [H0]; · iexact H0
  isplitl [H1]; · iexact H1
  isplitl [H2]; · iexact H2
  isplitl [H3]; · iexact H3
  rw [quR_rest, pointsTo_empty]
  iempintro

theorem deliv_all (r : ℕ) : iprop(bigSep Finset.univ (deliv d L mf mc r) ∗ srcRest d L mf mc r)
    ⊢ iprop((rLoc d L ↦{fullShare} srcRow mf mc (wid L) r) ∗ srcAll d L mf mc) := by
  rw [Idealize.SL.BI.bigSep_univ_eq_bigSepL [0, 1, 2, 3] (by decide) (by decide) _]
  show iprop((deliv d L mf mc r 0 ∗ deliv d L mf mc r 1 ∗ deliv d L mf mc r 2 ∗ deliv d L mf mc r 3) ∗ _) ⊢ _
  unfold deliv
  iintro ⟨⟨⟨R0, S0⟩, ⟨R1, S1⟩, ⟨R2, S2⟩, ⟨R3, S3⟩⟩, HR⟩
  isplitl [R0 R1 R2 R3]
  · iapply (row_join d L)
    isplitl [R0]; · iexact R0
    isplitl [R1]; · iexact R1
    isplitl [R2]; · iexact R2
    iexact R3
  · iapply (src_join d L mf mc r)
    isplitl [S0]; · iexact S0
    isplitl [S1]; · iexact S1
    isplitl [S2]; · iexact S2
    isplitl [S3]; · iexact S3
    iexact HR

/-- The destination row of trip `r`, at the results. -/
def done (r : ℕ) : sProp 𝕄 :=
  if r < 32 then ofLoc d ↦[rowOF (32 * wid L + r)]{fullShare} outF mf X else ocLoc d ↦[rowOC (wid L)]{fullShare} outC mc X
/-- The destination row of trip `r`, untouched. -/
def todo (r : ℕ) : sProp 𝕄 :=
  if r < 32 then ofLoc d ↦[rowOF (32 * wid L + r)]{fullShare} gf else ocLoc d ↦[rowOC (wid L)]{fullShare} gc

abbrev outSem (p : ℕ) : DmaSem sig := if p = 0 then cc0_scratch4.sem else cc0_scratch5.sem
abbrev outCell (p : ℕ) : GSem nD τ sig := (tl d L, .dma (outSem p))

/-- Row `p` of the output scratch free; or on its way to the destination row of trip `r`. -/
def free (p : ℕ) : sProp 𝕄 := iprop((∃ g, oLoc d L ↦[rowO p]{fullShare} g) ∗ semVal (outCell d L p) 0)
def leaving (p r : ℕ) : sProp 𝕄 :=
  Transfers.Flight (EC (F := F)) (tl d L) (.dma (outSem p)) (none : HIx 1) NO
    iprop(done d L mf mc X r ∗ oLoc d L ↦[rowO p]{fullShare} smpRow mf mc X (wid L) r)

variable [FloatOps F]

/-! ## The transfers, one by one -/

section Ops

variable {α : Type}

/-- A tile's programs. -/
abbrev Pg (L : grid0.Coords) (α : Type) : Type 1 := Prog (TpuEff nD τ sig (Elt F) Λ₀ (Proc.scVector (core L) (sub L))) α

/-- A hand rule leaves its continuation applied. -/
theorem ret_bind' {E : Type → Type} {α β : Type} (a : α) (k : α → Prog E β) : (Prog.ret a).bind k = k a := rfl

theorem wp_startF {r j : ℕ} {off : Fin 3 → ℕ} {off' : Fin 1 → ℕ} {inb inb'} {hsrc hdst hsem}
    (h : off = ![(32 * wid L + r) / 128, (32 * wid L + r) % 128, 16384 * j]) (h' : off' = ![16384 * j]) (hr : r < 32) (hj : j < 4)
    {k : PUnit → Pg (F := F) L α} {Φ : α → sProp 𝕄} :
    iprop(srcPt d L mf mc r j ∗ (∃ f, rLoc d L ↦[quR j]{fullShare} f) ∗ inBatch d L mf mc r j 0)
      ⊢ iprop((inBatch d L mf mc r (j + 1) 0 -∗ wp frame (wpE (defs₀ (F := F)) 𝒱₀ (tl d L) none) Set.univ (k ⟨⟩) Φ)
        -∗ wp frame (wpE (defs₀ (F := F)) 𝒱₀ (tl d L) none) Set.univ (.op (.enqueueDma (mF off inb) (.here (mR off' inb')) (.dma cc0_scratch3.sem) hsrc hdst hsem) k) Φ) := by
  have hs : ((mF off inb).view.loc (tl d L) ↦[(mF off inb).view.set]{fullShare} mf : sProp 𝕄) = srcPt d L mf mc r j := by
    unfold srcPt; rw [if_pos hr, set_mF h]
  have hd : (mR off' inb').view.set = quR j := set_mR h'
  iintro ⟨HS, ⟨%f, HD⟩, HB⟩
  iapply (Transfers.wp_dmaBatch (EC (F := F)) 𝒱₀ (tl d L) none (src := mF off inb) (dst := mR off' inb') (q := fullShare) (fs := mf)
    (Sd := (mR off' inb').view.set) (fd := f) (none : HIx 1) NQ rfl subset_rfl
    (D := deliv d L mf mc r) (j := j) (u := 0) hj (Nat.zero_le _) (by
      unfold deliv
      rw [← hs, ← hd]
      exact BI.sep_mono_l (Entails.of_eq (pointsTo_congr (land_F (inb := inb) (inb' := inb') mf mc h h' (wid_lt L) hr hj f))))) $$ [HS HD HB]
  isplitl [HS]
  · rw [hs]; iexact HS
  isplitl [HD]
  · rw [← hd]; iexact HD
  iexact HB

theorem wp_startC {r j : ℕ} {off : Fin 3 → ℕ} {off' : Fin 1 → ℕ} {inb inb'} {hsrc hdst hsem}
    (h : off = ![wid L / 3, wid L % 3, 16384 * j]) (h' : off' = ![16384 * j]) (hw : wid L < 24) (hr : ¬ r < 32) (hj : j < 4)
    {k : PUnit → Pg (F := F) L α} {Φ : α → sProp 𝕄} :
    iprop(srcPt d L mf mc r j ∗ (∃ f, rLoc d L ↦[quR j]{fullShare} f) ∗ inBatch d L mf mc r j 0)
      ⊢ iprop((inBatch d L mf mc r (j + 1) 0 -∗ wp frame (wpE (defs₀ (F := F)) 𝒱₀ (tl d L) none) Set.univ (k ⟨⟩) Φ)
        -∗ wp frame (wpE (defs₀ (F := F)) 𝒱₀ (tl d L) none) Set.univ (.op (.enqueueDma (mC off inb) (.here (mR off' inb')) (.dma cc0_scratch3.sem) hsrc hdst hsem) k) Φ) := by
  have hs : ((mC off inb).view.loc (tl d L) ↦[(mC off inb).view.set]{fullShare} mc : sProp 𝕄) = srcPt d L mf mc r j := by
    unfold srcPt; rw [if_neg hr, set_mC h]
  have hd : (mR off' inb').view.set = quR j := set_mR h'
  iintro ⟨HS, ⟨%f, HD⟩, HB⟩
  iapply (Transfers.wp_dmaBatch (EC (F := F)) 𝒱₀ (tl d L) none (src := mC off inb) (dst := mR off' inb') (q := fullShare) (fs := mc)
    (Sd := (mR off' inb').view.set) (fd := f) (none : HIx 1) NQ rfl subset_rfl
    (D := deliv d L mf mc r) (j := j) (u := 0) hj (Nat.zero_le _) (by
      unfold deliv
      rw [← hs, ← hd]
      exact BI.sep_mono_l (Entails.of_eq (pointsTo_congr (land_C (inb := inb) (inb' := inb') mf mc h h' hw hr hj f))))) $$ [HS HD HB]
  isplitl [HS]
  · rw [hs]; iexact HS
  isplitl [HD]
  · rw [← hd]; iexact HD
  iexact HB

/-- The idle scratch opens for a row's four quarters. -/
theorem idle_open (r : ℕ) : idle d L mf mc ⊢ |={Set.univ}=> iprop(inBatch d L mf mc r 0 0 ∗ srcRest d L mf mc r
    ∗ (srcPt d L mf mc r 0 ∗ srcPt d L mf mc r 1 ∗ srcPt d L mf mc r 2 ∗ srcPt d L mf mc r 3)
    ∗ (∃ f, rLoc d L ↦[quR 0]{fullShare} f) ∗ (∃ f, rLoc d L ↦[quR 1]{fullShare} f) ∗ (∃ f, rLoc d L ↦[quR 2]{fullShare} f) ∗ (∃ f, rLoc d L ↦[quR 3]{fullShare} f)) := by
  unfold idle
  iintro ⟨HS, ⟨%f, HR⟩, Hv⟩
  imod (Transfers.batch_alloc' (EC (F := F)) (tl d L) (none : HIx 1) NQ (deliv d L mf mc r) (sm := .dma cc0_scratch3.sem) (E := Set.univ)) $$ Hv with HB
  ihave HS := (src_split d L mf mc r) $$ HS
  icases HS with ⟨S0, S1, S2, S3, HS⟩
  ihave HR := (row_split d L f) $$ HR
  icases HR with ⟨R0, R1, R2, R3⟩
  imodintro
  isplitl [HB]; · iexact HB
  isplitl [HS]; · iexact HS
  isplitl [S0 S1 S2 S3]
  · isplitl [S0]; · iexact S0
    isplitl [S1]; · iexact S1
    isplitl [S2]; · iexact S2
    iexact S3
  isplitl [R0]; · iexists f; iexact R0
  isplitl [R1]; · iexists f; iexact R1
  isplitl [R2]; · iexists f; iexact R2
  iexists f; iexact R3

theorem wp_outF {p r : ℕ} {off : Fin 3 → ℕ} {off' : Fin 2 → ℕ} {inb inb'} {sm : DmaSem sig} {hsrc hdst} {hsem : DmaTarget.Typed (nD := nD) (p := Proc.scVector (core L) (sub L)) .vmem (.dma sm) (.here (mOF off inb))}
    (h : off = ![(32 * wid L + r) / 128, (32 * wid L + r) % 128, 0]) (h' : off' = ![p, 0]) (hr : r < 32) (hp : p < 2) (hsm : outSem p = sm)
    {k : PUnit → Pg (F := F) L α} {Φ : α → sProp 𝕄} :
    iprop(todo d L gf gc r ∗ (oLoc d L ↦[rowO p]{fullShare} smpRow mf mc X (wid L) r) ∗ semVal (outCell d L p) 0)
      ⊢ iprop((leaving d L mf mc X p r -∗ wp frame (wpE (defs₀ (F := F)) 𝒱₀ (tl d L) none) Set.univ (k ⟨⟩) Φ)
        -∗ wp frame (wpE (defs₀ (F := F)) 𝒱₀ (tl d L) none) Set.univ (.op (.enqueueDma (mO off' inb') (.here (mOF off inb)) (.dma sm) hsrc hdst hsem) k) Φ) := by
  subst hsm
  have hs : (mO off' inb').view.set = rowO p := set_mO h'
  have hd₀ : ((mOF off inb).view.loc (tl d L) ↦[(mOF off inb).view.set]{fullShare} gf : sProp 𝕄) = todo d L gf gc r := by
    unfold todo; rw [if_pos hr, set_mOF h]
  have hd₁ : ((mOF off inb).view.loc (tl d L) ↦[(mOF off inb).view.set]{fullShare} outF mf X : sProp 𝕄) = done d L mf mc X r := by
    unfold done; rw [if_pos hr, set_mOF h]
  have hd₂ : ((mOF off inb).view.loc (tl d L) ↦[(mOF off inb).view.set]{fullShare}
      (mOF off inb).view.write (Elt F) gf ((mO off' inb').view.read (Elt F) (smpRow mf mc X (wid L) r)) Finset.univ : sProp 𝕄) = done d L mf mc X r := by
    rw [← hd₁]; exact pointsTo_congr (land_OF (inb := inb) (inb' := inb') mf mc X h h' (wid_lt L) hr hp gf)
  iintro ⟨HD, HS, Hv⟩ Hk
  iapply (Transfers.wp_dmaLocal (EC (F := F)) 𝒱₀ (tl d L) none (src := mO off' inb') (dst := mOF off inb) (q := fullShare) (fs := smpRow mf mc X (wid L) r)
    (Sd := (mOF off inb).view.set) (fd := gf) (none : HIx 1) NO rfl NO_pos subset_rfl) $$ [HS HD Hv]
  · isplitl [HS]
    · rw [hs]; iexact HS
    isplitl [HD]
    · rw [hd₀]; iexact HD
    iexact Hv
  iintro HFl
  iapply Hk
  unfold leaving
  rw [← hd₂, ← hs]
  iexact HFl

theorem wp_outC {p r : ℕ} {off : Fin 3 → ℕ} {off' : Fin 2 → ℕ} {inb inb'} {sm : DmaSem sig} {hsrc hdst} {hsem : DmaTarget.Typed (nD := nD) (p := Proc.scVector (core L) (sub L)) .vmem (.dma sm) (.here (mOC off inb))}
    (h : off = ![wid L / 3, wid L % 3, 0]) (h' : off' = ![p, 0]) (hw : wid L < 24) (hr : ¬ r < 32) (hp : p < 2) (hsm : outSem p = sm)
    {k : PUnit → Pg (F := F) L α} {Φ : α → sProp 𝕄} :
    iprop(todo d L gf gc r ∗ (oLoc d L ↦[rowO p]{fullShare} smpRow mf mc X (wid L) r) ∗ semVal (outCell d L p) 0)
      ⊢ iprop((leaving d L mf mc X p r -∗ wp frame (wpE (defs₀ (F := F)) 𝒱₀ (tl d L) none) Set.univ (k ⟨⟩) Φ)
        -∗ wp frame (wpE (defs₀ (F := F)) 𝒱₀ (tl d L) none) Set.univ (.op (.enqueueDma (mO off' inb') (.here (mOC off inb)) (.dma sm) hsrc hdst hsem) k) Φ) := by
  subst hsm
  have hs : (mO off' inb').view.set = rowO p := set_mO h'
  have hd₀ : ((mOC off inb).view.loc (tl d L) ↦[(mOC off inb).view.set]{fullShare} gc : sProp 𝕄) = todo d L gf gc r := by
    unfold todo; rw [if_neg hr, set_mOC h]
  have hd₁ : ((mOC off inb).view.loc (tl d L) ↦[(mOC off inb).view.set]{fullShare} outC mc X : sProp 𝕄) = done d L mf mc X r := by
    unfold done; rw [if_neg hr, set_mOC h]
  have hd₂ : ((mOC off inb).view.loc (tl d L) ↦[(mOC off inb).view.set]{fullShare}
      (mOC off inb).view.write (Elt F) gc ((mO off' inb').view.read (Elt F) (smpRow mf mc X (wid L) r)) Finset.univ : sProp 𝕄) = done d L mf mc X r := by
    rw [← hd₁]; exact pointsTo_congr (land_OC (inb := inb) (inb' := inb') mf mc X h h' hw hr hp gc)
  iintro ⟨HD, HS, Hv⟩ Hk
  iapply (Transfers.wp_dmaLocal (EC (F := F)) 𝒱₀ (tl d L) none (src := mO off' inb') (dst := mOC off inb) (q := fullShare) (fs := smpRow mf mc X (wid L) r)
    (Sd := (mOC off inb).view.set) (fd := gc) (none : HIx 1) NO rfl NO_pos subset_rfl) $$ [HS HD Hv]
  · isplitl [HS]
    · rw [hs]; iexact HS
    isplitl [HD]
    · rw [hd₀]; iexact HD
    iexact Hv
  iintro HFl
  iapply Hk
  unfold leaving
  rw [← hd₂, ← hs]
  iexact HFl

/-- What a tile owes, its waits so far beyond `W` all its own. -/
def owing (O : CellTallies nD τ sig (HIx 1)) (W : Waits sig (HIx 1)) : sProp 𝕄 :=
  iprop(∃ W', ⌜∀ p ∈ W', p ∈ W ∨ p.2 = none⌝ ∗ owes (tl d L) O W')

theorem owing_open {O : CellTallies nD τ sig (HIx 1)} {W : Waits sig (HIx 1)} : owing d L O W
    ⊢ (iprop(∃ W', ⌜∀ p ∈ W', p ∈ W ∨ p.2 = none⌝ ∗ owes (tl d L) O W') : sProp 𝕄) := .rfl

theorem owing_insert {O : CellTallies nD τ sig (HIx 1)} {W W' : Waits sig (HIx 1)} (hW : ∀ p ∈ W', p ∈ W ∨ p.2 = none) (sm : SemLoc sig) :
    (owes (tl d L) O (insert (sm, (none : HIx 1)) W') : sProp 𝕄) ⊢ owing d L O W := by
  unfold owing
  iintro HO
  iexists (insert (sm, (none : HIx 1)) W'); isplitr
  · ipureintro; intro p hp
    rcases Finset.mem_insert.mp hp with hp | hp
    · exact .inr (hp ▸ rfl)
    · exact hW p hp
  · iexact HO

theorem wp_waitOut {p r : ℕ} {off : Fin 3 → ℕ} {off' : Fin 2 → ℕ} {inb inb'} {hsrc hdst} {sm : DmaSem sig} (hsm : outSem p = sm)
    {O : CellTallies nD τ sig (HIx 1)} {W : Waits sig (HIx 1)} {k : PUnit → Pg (F := F) L α} {Φ : α → sProp 𝕄} :
    iprop(leaving d L mf mc X p r ∗ owing d L O W ∗ Transfers.MayWaits (tl d L) (none : HIx 1) O)
      ⊢ iprop((iprop(done d L mf mc X r ∗ free d L p ∗ owing d L O W) -∗ wp frame (wpE (defs₀ (F := F)) 𝒱₀ (tl d L) none) Set.univ (k ⟨⟩) Φ)
        -∗ wp frame (wpE (defs₀ (F := F)) 𝒱₀ (tl d L) none) Set.univ (.op (.waitDma2 sm (mO off' inb') (mOF off inb) hsrc hdst) k) Φ) := by
  subst hsm
  unfold leaving
  iintro ⟨HF, HO, HM⟩ Hk
  ihave HO := (owing_open d L) $$ HO
  icases HO with ⟨%W', %hW, HO⟩
  ihave HM := (Transfers.MayWaits.elim (.dma (outSem p))) $$ HM
  iapply (Transfers.wp_waitLocalO (EC (F := F)) 𝒱₀ (tl d L) none (none : HIx 1) rfl) $$ [HF HO HM]
  · isplitl [HF]; · iexact HF
    isplitl [HO]; · iexact HO
    iexact HM
  iintro ⟨⟨HD, HS⟩, Hv, HO⟩
  iapply Hk
  isplitl [HD]; · iexact HD
  isplitl [HS Hv]
  · unfold free
    isplitl [HS]; · iexists _; iexact HS
    iexact Hv
  iapply (owing_insert d L hW (.dma (outSem p)))
  iexact HO

/-- One of the first three waits for a row's quarters. -/
theorem wp_waitIn {r u : ℕ} {off : Fin 3 → ℕ} {off' : Fin 1 → ℕ} {inb inb'} {hsrc hdst} (hu : u < 3)
    {O : CellTallies nD τ sig (HIx 1)} {W : Waits sig (HIx 1)} {k : PUnit → Pg (F := F) L α} {Φ : α → sProp 𝕄} :
    iprop(inBatch d L mf mc r 4 (u * NQ) ∗ owing d L O W ∗ Transfers.MayWaits (tl d L) (none : HIx 1) O)
      ⊢ iprop((iprop(inBatch d L mf mc r 4 ((u + 1) * NQ) ∗ owing d L O W) -∗ wp frame (wpE (defs₀ (F := F)) 𝒱₀ (tl d L) none) Set.univ (k ⟨⟩) Φ)
        -∗ wp frame (wpE (defs₀ (F := F)) 𝒱₀ (tl d L) none) Set.univ (.op (.waitDma2 cc0_scratch3.sem (mF off inb) (mR off' inb') hsrc hdst) k) Φ) := by
  iintro ⟨HB, HO, HM⟩ Hk
  ihave HO := (owing_open d L) $$ HO
  icases HO with ⟨%W', %hW, HO⟩
  ihave HM := (Transfers.MayWaits.elim (.dma cc0_scratch3.sem)) $$ HM
  have hN := NQ_pos
  iapply (Transfers.wp_waitBatchO (EC (F := F)) 𝒱₀ (tl d L) none (none : HIx 1) (N := NQ) rfl (D := deliv d L mf mc r) (u := u * NQ) (by nlinarith)) $$ [HB HO HM]
  · isplitl [HB]; · iexact HB
    isplitl [HO]; · iexact HO
    iexact HM
  iintro ⟨HB, HO⟩
  iapply Hk
  isplitl [HB]; · rw [Nat.succ_mul]; iexact HB
  iapply (owing_insert d L hW (.dma cc0_scratch3.sem))
  iexact HO

/-- The fourth. -/
theorem wp_waitInLast {r : ℕ} {off : Fin 3 → ℕ} {off' : Fin 1 → ℕ} {inb inb'} {hsrc hdst}
    {O : CellTallies nD τ sig (HIx 1)} {W : Waits sig (HIx 1)} {k : PUnit → Pg (F := F) L α} {Φ : α → sProp 𝕄} :
    iprop(inBatch d L mf mc r 4 (3 * NQ) ∗ srcRest d L mf mc r ∗ owing d L O W ∗ Transfers.MayWaits (tl d L) (none : HIx 1) O)
      ⊢ iprop((iprop((rLoc d L ↦{fullShare} srcRow mf mc (wid L) r) ∗ srcAll d L mf mc ∗ semVal (inCell d L) 0 ∗ owing d L O W) -∗ wp frame (wpE (defs₀ (F := F)) 𝒱₀ (tl d L) none) Set.univ (k ⟨⟩) Φ)
        -∗ wp frame (wpE (defs₀ (F := F)) 𝒱₀ (tl d L) none) Set.univ (.op (.waitDma2 cc0_scratch3.sem (mF off inb) (mR off' inb') hsrc hdst) k) Φ) := by
  iintro ⟨HB, HR, HO, HM⟩ Hk
  ihave HO := (owing_open d L) $$ HO
  icases HO with ⟨%W', %hW, HO⟩
  ihave HM := (Transfers.MayWaits.elim (.dma cc0_scratch3.sem)) $$ HM
  iapply (Transfers.wp_waitBatchLastO (EC (F := F)) 𝒱₀ (tl d L) none (none : HIx 1) (N := NQ) rfl NQ_pos (D := deliv d L mf mc r) (u := 3 * NQ) (by ring)) $$ [HB HO HM]
  · isplitl [HB]; · iexact HB
    isplitl [HO]; · iexact HO
    iexact HM
  iintro ⟨HD, Hv, HO⟩
  iapply Hk
  ihave HD := (deliv_all d L mf mc r) $$ [HD HR]
  · isplitl [HD] <;> iassumption
  icases HD with ⟨HW, HS⟩
  isplitl [HW]; · iexact HW
  isplitl [HS]; · iexact HS
  isplitl [Hv]; · iexact Hv
  iapply (owing_insert d L hW (.dma cc0_scratch3.sem))
  iexact HO

end Ops

end Tile

end Cert.Proof.Pool
-- ==== Proof.Inner.lean ====
/-
  The sampling loop of one trip: sixteen lanes at a time, the row scratch at the sample's places goes to one row of the
  output scratch.
-/
module

public import proofs.«01_k».proof.Proof.Stage
public import Idealize.ShloMosaic.Lib.Pipeline.Value

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

section Inner

variable [FloatOps F] (d : Dev nD) (L : grid0.Coords)
variable (mf : S8x128x65536.Idx → F .f32) (mc : S8x3x65536.Idx → F .f32) (X : S16384.Idx → BitVec 32)

/-- One pass of the sampling loop, over the kernel's arguments. -/
abbrev pass (t : Fin (k0_t1_loop L).trips) : Fin k0_t2_loop.trips → Unit → Pg (F := F) L Unit :=
  k0_t2_body (F := F) L fV (Memref.isWhole_whole _) cV (Memref.isWhole_whole _) iV (Memref.isWhole_whole _)
    ofV (Memref.isWhole_whole _) ocV (Memref.isWhole_whole _) sI (Memref.isWhole_whole _) sR (Memref.isWhole_whole _)
    sO (Memref.isWhole_whole _) cc0_scratch3 cc0_scratch4 cc0_scratch5 cc0_scoped0 t

/-- After `j` passes of trip `r`, the first `16 * j` elements of the output row are the sampled ones. -/
def sampling (r j : ℕ) : sProp 𝕄 :=
  iprop((xLoc d L ↦{fullShare} X) ∗ (rLoc d L ↦{fullShare} srcRow mf mc (wid L) r)
    ∗ ∃ g : S2x16384.Idx → F .f32, ⌜∀ x : S2x16384.Idx, (x 0).val = r % 2 → (x 1).val < 16 * j → g x = smpRow mf mc X (wid L) r x⌝
        ∗ oLoc d L ↦[rowO (r % 2)]{fullShare} g)

abbrev rI (j : Fin k0_t2_loop.trips) : Rect S16384 := Rect.unit (s := S16384) (k0_off9 j) S16.size (k0_off9_inb j)
abbrev rO (t : Fin (k0_t1_loop L).trips) (j : Fin k0_t2_loop.trips) : Rect S2x16384 :=
  Rect.unit (s := S2x16384) (k0_off10 L t j) S1x16.size (k0_off10_inb L t j)

omit [FloatOps F] in
theorem mem_rO {t : Fin (k0_t1_loop L).trips} {j : Fin k0_t2_loop.trips} {x : S2x16384.Idx} :
    x ∈ (sO.access (rO L t j)).set ↔ (x 0).val = t.val % 2 ∧ 16 * j.val ≤ (x 1).val ∧ (x 1).val < 16 * j.val + 16 := by
  have e : (sO.access (rO L t j)).set = (rO L t j).set := View.set_slice_whole _ _
  rw [e, Rect.mem_set_unit]
  refine fin2_all.trans ?_
  rw [k0_off10_eq]
  show ((t.val % 2 ≤ (x 0).val ∧ (x 0).val < t.val % 2 + 1) ∧ (16 * j.val ≤ (x 1).val ∧ (x 1).val < 16 * j.val + 16)) ↔ _
  omega

omit [FloatOps F] in
theorem j_lt (j : Fin k0_t2_loop.trips) : j.val < 1024 := lt_of_lt_of_eq j.isLt (by decide +kernel)

omit [FloatOps F] in
/-- The words a pass loads. -/
theorem words_at (j : Fin k0_t2_loop.trips) (y : S16.Idx) (h : 16 * j.val + (y 0).val < 16384) :
    sI.view.readAt (Elt F) (rI j).toLoadRect X y = X (ix1 (n := 16384) ⟨16 * j.val + (y 0).val, h⟩) := by
  rw [View.readAt_apply]
  show X ((rI j).toLoadRect.idx y) = _
  congr 1
  apply Shape.idx1_ext
  rw [LoadRect.idx_apply]
  show (k0_off9 j) 0 + 1 * (y 0).val = 16 * j.val + (y 0).val
  rw [k0_off9_eq]
  show 16 * j.val + 1 * (y 0).val = _
  omega

omit [FloatOps F] in
/-- What a pass stores is the sampled row at its sixteen elements. -/
theorem stored (hX : ∀ y, (X y).toNat < 65536) {t : Fin (k0_t1_loop L).trips} {j : Fin k0_t2_loop.trips} (g : S2x16384.Idx → F .f32)
    (hg : ∀ x : S2x16384.Idx, (x 0).val = t.val % 2 → (x 1).val < 16 * j.val → g x = smpRow mf mc X (wid L) t.val x)
    (v : Vec F S16 .i32) (hv : v = sI.view.readAt (Elt F) (rI j).toLoadRect X)
    (h : ∀ a x, ((![v] : Fin 1 → IVec S16 32) a x).toNat < S65536.size a) (x : S2x16384.Idx) (hx : (x 0).val = t.val % 2) (hx' : (x 1).val < 16 * (j.val + 1)) :
    (sO.access (rO L t j)).write (Elt F) g
      (shapeCast S1x16 (loadIdx ((sR.access (.whole S65536)).read (Elt F) (srcRow mf mc (wid L) t.val)) ![v] h) shapeCasts_S16_S1x16) Finset.univ x
      = smpRow mf mc X (wid L) t.val x := by
  by_cases hm : x ∈ (sO.access (rO L t j)).set
  · obtain ⟨y, -, rfl⟩ := Finset.mem_map.mp hm
    rw [View.write_emb_of_mem _ _ (Finset.mem_univ _)]
    refine (cast_eq _ _).trans ?_
    have hy : (y 1).val < 16 := (y 1).isLt
    have hy0 : (y 0).val < 1 := (y 0).isLt
    have hj := j_lt j
    rw [shapeCast_apply _ _ _ (ix1 (n := 16) ⟨(y 1).val, hy⟩) (by
      rw [Shape.rowMajor_val_two, Shape.rowMajor_val_one]
      show (y 1).val = (y 0).val * 16 + (y 1).val
      omega)]
    have e1 : ((sO.access (rO L t j)).emb y 1).val = 16 * j.val + (y 1).val := by
      show (k0_off10 L t j) 1 + 1 * (y 1).val = _
      rw [k0_off10_eq]
      show 16 * j.val + 1 * (y 1).val = _
      omega
    unfold loadIdx smpRow
    show srcRow mf mc (wid L) t.val _ = _
    congr 1
    apply Shape.idx1_ext
    show 0 + 1 * (v (ix1 (n := 16) ⟨(y 1).val, hy⟩)).toNat = (X (ix1 (n := 16384) ((sO.access (rO L t j)).emb y 1))).toNat % 65536
    rw [Nat.zero_add, Nat.one_mul, hv, words_at X j _ (by show 16 * j.val + (y 1).val < 16384; omega), Nat.mod_eq_of_lt (hX _)]
    congr 2
    apply Shape.idx1_ext
    exact e1.symm
  · rw [View.write_of_not_mem _ _ _ (by rw [View.setOn_univ]; exact hm)]
    apply hg x hx
    rw [mem_rO] at hm
    omega

theorem pass_step (hX : ∀ y, (X y).toNat < 65536) (t : Fin (k0_t1_loop L).trips) (j : Fin k0_t2_loop.trips) (u : Unit) :
    sampling d L mf mc X t.val j.val
      ⊢ wp frame (wpE (defs₀ (F := F)) 𝒱₀ (tl d L) none) Set.univ (pass L t j u) fun _ => sampling d L mf mc X t.val (j.val + 1) := by
  unfold pass k0_t2_body sampling
  simp only [Prog.lift, Prog.bind_op, Prog.bind_ret, Prog.pure_eq_ret]
  iintro ⟨HX, HR, %g, %hg, HO⟩
  iapply (wp_load 𝒱₀ (tl d L) none Set.univ (m := sI) (S := Finset.univ) (Finset.subset_univ _)) $$ HX; iintro HX
  have hj := j_lt j
  have hc : k0_chk1 (sI.view.readAt (Elt F) (rI j).toLoadRect X) := by
    intro a x
    obtain rfl : a = 0 := Subsingleton.elim _ _
    have hx : (x 0).val < 16 := (x 0).isLt
    show (sI.view.readAt (Elt F) (rI j).toLoadRect X x).toNat < 65536
    rw [words_at X j x (by omega)]
    exact hX _
  rw [wp_assume_of _ _ _ _ hc]
  iapply (SparseCore.wp_vectorLoadIdx 𝒱₀ (tl d L) none Set.univ (base := sR) (S := Finset.univ) (q := fullShare) (Finset.subset_univ _)) $$ HR; iintro HR
  have hsub : (sO.access (rO L t j)).set ⊆ rowO (t.val % 2) := by
    intro x hx
    rw [mem_rO] at hx
    simp only [rowO, Finset.mem_filter, Finset.mem_univ, true_and]
    exact hx.1
  iapply (wp_load_rect 𝒱₀ (tl d L) none Set.univ (m := sO) (r := rO L t j) (S := rowO (t.val % 2)) hsub) $$ HO; iintro HO
  iapply (wp_store 𝒱₀ (tl d L) none Set.univ (m := sO) (r := rO L t j) (Mk := Finset.univ) (S := rowO (t.val % 2)) hsub) $$ HO; iintro HO
  rw [wp_ret]; imodintro
  isplitl [HX]; · iexact HX
  isplitl [HR]; · iexact HR
  iexists ((sO.access (rO L t j)).write (Elt F) g
    (shapeCast S1x16 (loadIdx ((sR.access (.whole S65536)).read (Elt F) (srcRow mf mc (wid L) t.val)) ![sI.view.readAt (Elt F) (rI j).toLoadRect X] hc)
      shapeCasts_S16_S1x16) Finset.univ)
  isplitr
  · ipureintro
    exact fun x hx hx' => stored L mf mc X hX g hg _ rfl _ x hx hx'
  iexact HO

/-- The whole loop fills the output row. -/
theorem sampled (r : ℕ) : sampling d L mf mc X r k0_t2_loop.trips
    ⊢ (iprop((xLoc d L ↦{fullShare} X) ∗ (rLoc d L ↦{fullShare} srcRow mf mc (wid L) r) ∗ oLoc d L ↦[rowO (r % 2)]{fullShare} smpRow mf mc X (wid L) r) : sProp 𝕄) := by
  unfold sampling
  iintro ⟨HX, HR, %g, %hg, HO⟩
  isplitl [HX]; · iexact HX
  isplitl [HR]; · iexact HR
  have e : (oLoc d L ↦[rowO (r % 2)]{fullShare} g : sProp 𝕄) = oLoc d L ↦[rowO (r % 2)]{fullShare} smpRow mf mc X (wid L) r := by
    apply pointsTo_congr
    intro x hx
    refine hg x (by simpa [rowO] using hx) ?_
    have h1 : (x 1).val < 16384 := (x 1).isLt
    have h2 : k0_t2_loop.trips = 1024 := by decide +kernel
    omega
  rw [← e]; iexact HO

end Inner

end Cert.Proof.Pool
-- ==== Proof.Phases.lean ====
/-
  A trip of the kernel's main loop as a chain of phases, each over what follows it: the waits for the source row, the
  wait for an output row two trips old, the sampling loop, the start of the output row's copy, the start of the next
  source row's copies. What the branch conditions say of the trip's number.
-/
module

public import proofs.«01_k».proof.Proof.Inner

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## The conditions -/

/-- The kernel's "this word is that one", as a branch condition. -/
abbrev isW (v c : BitVec 32) : BitVec 1 := Scalar.cmpi .ne (Scalar.extui (Scalar.cmpi .eq v c)) 0#32

abbrev v13 (L : grid0.Coords) (t : Fin (k0_t1_loop L).trips) : BitVec 32 := Scf.iv 0#32 1#32 t
abbrev v30 (L : grid0.Coords) (t : Fin (k0_t1_loop L).trips) : BitVec 32 := Scalar.remsi (v13 L t) 2#32
abbrev v57 (L : grid0.Coords) (t : Fin (k0_t1_loop L).trips) : BitVec 1 := Scalar.cmpi .ne (Scalar.extui (Scalar.cmpi .sge (v13 L t) 2#32)) 0#32

theorem c_late : ∀ (L : grid0.Coords) (t : Fin (k0_t1_loop L).trips), v57 L t = 1#1 ↔ 2 ≤ t.val := by decide +kernel
theorem c_even : ∀ (L : grid0.Coords) (t : Fin (k0_t1_loop L).trips), isW (v30 L t) 0#32 = 1#1 ↔ t.val % 2 = 0 := by decide +kernel
theorem c_odd : ∀ (L : grid0.Coords) (t : Fin (k0_t1_loop L).trips), isW (v30 L t) 1#32 = 1#1 ↔ t.val % 2 = 1 := by decide +kernel
theorem c6 : ∀ (L : grid0.Coords) (t : Fin (k0_t1_loop L).trips), k0_cond6 L t = 1#1 ↔ t.val % 2 = 0 := by decide +kernel
theorem c7 : ∀ (L : grid0.Coords) (t : Fin (k0_t1_loop L).trips), k0_cond7 L t = 1#1 ↔ t.val < 32 := by decide +kernel
theorem c8 : ∀ (L : grid0.Coords) (t : Fin (k0_t1_loop L).trips), k0_cond8 L t = 1#1 ↔ ¬ t.val < 32 := by decide +kernel
theorem c9 : ∀ (L : grid0.Coords) (t : Fin (k0_t1_loop L).trips), k0_cond9 L t = 1#1 ↔ t.val % 2 = 1 := by decide +kernel
theorem c10 : ∀ (L : grid0.Coords) (t : Fin (k0_t1_loop L).trips), k0_cond10 L t = 1#1 ↔ t.val < 32 := by decide +kernel
theorem c11 : ∀ (L : grid0.Coords) (t : Fin (k0_t1_loop L).trips), k0_cond11 L t = 1#1 ↔ ¬ t.val < 32 := by decide +kernel
theorem c12 : ∀ (L : grid0.Coords) (t : Fin (k0_t1_loop L).trips), k0_cond12 L t = 1#1 ↔ t.val + 1 < (k0_t1_loop L).trips := by decide +kernel
theorem c13 : ∀ (L : grid0.Coords) (t : Fin (k0_t1_loop L).trips), k0_cond13 L t = 1#1 ↔ t.val + 1 < 32 := by decide +kernel
theorem c14 : ∀ (L : grid0.Coords) (t : Fin (k0_t1_loop L).trips), k0_cond14 L t = 1#1 ↔ ¬ t.val + 1 < 32 := by decide +kernel

/-! ## The phases -/

section Phases

variable [FloatOps F] (L : grid0.Coords) {α : Type}

theorem we16 {cs : Space} (m : Memref sig .scVector cs S16384 .f32) : m.view.WordExact := View.wordExact_bits rfl

abbrev waitR (k : Pg (F := F) L α) : Pg (F := F) L α :=
  .op (.waitDma2 cc0_scratch3.sem (mF ![0, 0, 0] inb_S8x128x65536_S1x1x16384_0_0_0) (mR ![0] inb_S65536_S16384_0) (we16 _) (we16 _)) fun _ => k

/-- The four waits for a source row. -/
abbrev waitRow (k : Pg (F := F) L α) : Pg (F := F) L α := waitR L (waitR L (waitR L (waitR L k)))

abbrev waitO0 (k : Pg (F := F) L α) : Pg (F := F) L α :=
  .op (.waitDma2 cc0_scratch4.sem (mO ![0, 0] inb_S2x16384_S1x16384_0_0) (mOF ![0, 0, 0] inb_S8x128x16384_S1x1x16384_0_0_0) (we16 _) (we16 _)) fun _ => k
abbrev waitO1 (k : Pg (F := F) L α) : Pg (F := F) L α :=
  .op (.waitDma2 cc0_scratch5.sem (mO ![1, 0] inb_S2x16384_S1x16384_1_0) (mOF ![0, 0, 0] inb_S8x128x16384_S1x1x16384_0_0_0) (we16 _) (we16 _)) fun _ => k

/-- The wait for the output row two trips old. -/
def waitOut (t : Fin (k0_t1_loop L).trips) (k : Pg (F := F) L α) : Pg (F := F) L α :=
  if h3 : v57 L t = 1#1 then
    let k' := if h5 : isW (v30 L t) 1#32 = 1#1 then waitO1 L k else k
    if h4 : isW (v30 L t) 0#32 = 1#1 then waitO0 L k' else k'
  else k

abbrev sendF (off : Fin 3 → ℕ) (inb : ∀ a, off a + S1x1x16384.size a ≤ S8x128x16384.size a) (off' : Fin 2 → ℕ)
    (inb' : ∀ a, off' a + S1x16384.size a ≤ S2x16384.size a) (sm : DmaSem sig) (k : Pg (F := F) L α) : Pg (F := F) L α :=
  .op (.enqueueDma (mO off' inb') (.here (mOF off inb)) (.dma sm) (we16 _) (we16 _) ⟨Or.inl rfl, trivial⟩) fun _ => k
abbrev sendC (off : Fin 3 → ℕ) (inb : ∀ a, off a + S1x1x16384.size a ≤ S8x3x16384.size a) (off' : Fin 2 → ℕ)
    (inb' : ∀ a, off' a + S1x16384.size a ≤ S2x16384.size a) (sm : DmaSem sig) (k : Pg (F := F) L α) : Pg (F := F) L α :=
  .op (.enqueueDma (mO off' inb') (.here (mOC off inb)) (.dma sm) (we16 _) (we16 _) ⟨Or.inl rfl, trivial⟩) fun _ => k

/-- An even trip's output row sent out. -/
def send0 (t : Fin (k0_t1_loop L).trips) (k : Pg (F := F) L α) : Pg (F := F) L α :=
  if h6 : k0_cond6 L t = 1#1 then
    let k' := if h8 : k0_cond8 L t = 1#1 then sendC L (k0_off12 L) (k0_off12_inb L t h6 h8) ![0, 0] inb_S2x16384_S1x16384_0_0 cc0_scratch4.sem k else k
    if h7 : k0_cond7 L t = 1#1 then sendF L (k0_off11 L t) (k0_off11_inb L t h6 h7) ![0, 0] inb_S2x16384_S1x16384_0_0 cc0_scratch4.sem k' else k'
  else k
/-- An odd trip's. -/
def send1 (t : Fin (k0_t1_loop L).trips) (k : Pg (F := F) L α) : Pg (F := F) L α :=
  if h9 : k0_cond9 L t = 1#1 then
    let k' := if h11 : k0_cond11 L t = 1#1 then sendC L (k0_off14 L) (k0_off14_inb L t h9 h11) ![1, 0] inb_S2x16384_S1x16384_1_0 cc0_scratch5.sem k else k
    if h10 : k0_cond10 L t = 1#1 then sendF L (k0_off13 L t) (k0_off13_inb L t h9 h10) ![1, 0] inb_S2x16384_S1x16384_1_0 cc0_scratch5.sem k' else k'
  else k

abbrev readF (off : Fin 3 → ℕ) (inb : ∀ a, off a + S1x1x16384.size a ≤ S8x128x65536.size a) (off' : Fin 1 → ℕ)
    (inb' : ∀ a, off' a + S16384.size a ≤ S65536.size a) (k : Pg (F := F) L α) : Pg (F := F) L α :=
  .op (.enqueueDma (mF off inb) (.here (mR off' inb')) (.dma cc0_scratch3.sem) (we16 _) (we16 _) ⟨Or.inl rfl, trivial⟩) fun _ => k
abbrev readC (off : Fin 3 → ℕ) (inb : ∀ a, off a + S1x1x16384.size a ≤ S8x3x65536.size a) (off' : Fin 1 → ℕ)
    (inb' : ∀ a, off' a + S16384.size a ≤ S65536.size a) (k : Pg (F := F) L α) : Pg (F := F) L α :=
  .op (.enqueueDma (mC off inb) (.here (mR off' inb')) (.dma cc0_scratch3.sem) (we16 _) (we16 _) ⟨Or.inl rfl, trivial⟩) fun _ => k

/-- The four copies of a row of the features, of the coordinates, into the row scratch. -/
abbrev readRowF (o0 o1 o2 o3 : Fin 3 → ℕ) (i0 : ∀ a, o0 a + S1x1x16384.size a ≤ S8x128x65536.size a)
    (i1 : ∀ a, o1 a + S1x1x16384.size a ≤ S8x128x65536.size a) (i2 : ∀ a, o2 a + S1x1x16384.size a ≤ S8x128x65536.size a)
    (i3 : ∀ a, o3 a + S1x1x16384.size a ≤ S8x128x65536.size a) (k : Pg (F := F) L α) : Pg (F := F) L α :=
  readF L o0 i0 ![0] inb_S65536_S16384_0 (readF L o1 i1 ![16384] inb_S65536_S16384_16384
    (readF L o2 i2 ![32768] inb_S65536_S16384_32768 (readF L o3 i3 ![49152] inb_S65536_S16384_49152 k)))
abbrev readRowC (o0 o1 o2 o3 : Fin 3 → ℕ) (i0 : ∀ a, o0 a + S1x1x16384.size a ≤ S8x3x65536.size a)
    (i1 : ∀ a, o1 a + S1x1x16384.size a ≤ S8x3x65536.size a) (i2 : ∀ a, o2 a + S1x1x16384.size a ≤ S8x3x65536.size a)
    (i3 : ∀ a, o3 a + S1x1x16384.size a ≤ S8x3x65536.size a) (k : Pg (F := F) L α) : Pg (F := F) L α :=
  readC L o0 i0 ![0] inb_S65536_S16384_0 (readC L o1 i1 ![16384] inb_S65536_S16384_16384
    (readC L o2 i2 ![32768] inb_S65536_S16384_32768 (readC L o3 i3 ![49152] inb_S65536_S16384_49152 k)))

/-- The next source row's copies started. -/
def readNext (t : Fin (k0_t1_loop L).trips) (k : Pg (F := F) L α) : Pg (F := F) L α :=
  if h12 : k0_cond12 L t = 1#1 then
    let k' := if h14 : k0_cond14 L t = 1#1 then
        readRowC L (k0_off19 L) (k0_off20 L) (k0_off21 L) (k0_off22 L) (k0_off19_inb L t h12 h14) (k0_off20_inb L t h12 h14)
          (k0_off21_inb L t h12 h14) (k0_off22_inb L t h12 h14) k
      else k
    if h13 : k0_cond13 L t = 1#1 then
        readRowF L (k0_off15 L t) (k0_off16 L t) (k0_off17 L t) (k0_off18 L t) (k0_off15_inb L t h12 h13) (k0_off16_inb L t h12 h13)
          (k0_off17_inb L t h12 h13) (k0_off18_inb L t h12 h13) k'
      else k'
  else k

/-- One trip, over the kernel's arguments. -/
abbrev trip : Fin (k0_t1_loop L).trips → Unit → Pg (F := F) L Unit :=
  k0_t1_body (F := F) L fV (Memref.isWhole_whole _) cV (Memref.isWhole_whole _) iV (Memref.isWhole_whole _)
    ofV (Memref.isWhole_whole _) ocV (Memref.isWhole_whole _) sI (Memref.isWhole_whole _) sR (Memref.isWhole_whole _)
    sO (Memref.isWhole_whole _) cc0_scratch3 cc0_scratch4 cc0_scratch5 cc0_scoped0

set_option maxRecDepth 65536 in
/-- A trip is its phases. -/
theorem trip_eq (t : Fin (k0_t1_loop L).trips) (u : Unit) : trip (F := F) L t u
    = waitRow L (waitOut L t (Scf.Loop.for k0_t2_loop k0_t2_ok () (pass L t) >>= fun _ => send0 L t (send1 L t (readNext L t (.ret ()))))) := by
  unfold trip k0_t1_body waitOut send0 send1 readNext
  rw [k0_part1_eq_skeleton]
  unfold k0_part1_skel
  simp only [Prog.lift, Prog.bind_op, Prog.bind_ret, Prog.pure_eq_ret]

end Phases

end Cert.Proof.Pool
-- ==== Proof.Trip.lean ====
/-
  One trip of the main loop, its phases run one after the other: between trips the tile holds the next source row on its
  way in, the two rows of the output scratch free or on their way out, the destination rows done and those to come.
-/
module

public import proofs.«01_k».proof.Proof.Phases

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

section Trip

variable [FloatOps F] (d : Dev nD) (L : grid0.Coords)
variable (mf : S8x128x65536.Idx → F .f32) (mc : S8x3x65536.Idx → F .f32) (X : S16384.Idx → BitVec 32)
variable (gf : S8x128x16384.Idx → F .f32) (gc : S8x3x16384.Idx → F .f32)
variable (O : CellTallies nD τ sig (HIx 1)) (W : Waits sig (HIx 1))

/-- A run of the tile's program. -/
abbrev Run {α : Type} (e : Pg (F := F) L α) (Φ : α → sProp 𝕄) : sProp 𝕄 :=
  wp frame (wpE (defs₀ (F := F)) 𝒱₀ (tl d L) none) Set.univ e Φ

abbrev MW : sProp 𝕄 := Transfers.MayWaits (tl d L) (none : HIx 1) O

/-! ## The phases' runs -/

theorem wp_waitRow {r : ℕ} {k : Pg (F := F) L Unit} {Φ : Unit → sProp 𝕄} :
    iprop(loading d L mf mc r ∗ owing d L O W ∗ MW d L O)
      ⊢ iprop((iprop((rLoc d L ↦{fullShare} srcRow mf mc (wid L) r) ∗ srcAll d L mf mc ∗ semVal (inCell d L) 0 ∗ owing d L O W) -∗ Run d L k Φ)
        -∗ Run d L (waitRow L k) Φ) := by
  unfold loading
  iintro ⟨⟨HB, HR⟩, HO, #HM⟩ Hk
  have e0 : (inBatch d L mf mc r 4 0 : sProp 𝕄) = inBatch d L mf mc r 4 (0 * NQ) := by rw [Nat.zero_mul]
  ihave HB := (Entails.of_eq e0) $$ HB
  iapply (wp_waitIn d L mf mc (u := 0) (by decide)) $$ [HB HO]
  · isplitl [HB]; · iexact HB
    isplitl [HO]; · iexact HO
    iexact HM
  iintro ⟨HB, HO⟩
  iapply (wp_waitIn d L mf mc (u := 1) (by decide)) $$ [HB HO]
  · isplitl [HB]; · iexact HB
    isplitl [HO]; · iexact HO
    iexact HM
  iintro ⟨HB, HO⟩
  iapply (wp_waitIn d L mf mc (u := 2) (by decide)) $$ [HB HO]
  · isplitl [HB]; · iexact HB
    isplitl [HO]; · iexact HO
    iexact HM
  iintro ⟨HB, HO⟩
  iapply (wp_waitInLast d L mf mc) $$ [HB HR HO]
  · isplitl [HB]; · iexact HB
    isplitl [HR]; · iexact HR
    isplitl [HO]; · iexact HO
    iexact HM
  iexact Hk

/-- The output row trip `r` writes, before it: free, or two trips on its way. And the destination row it then hands on. -/
def slotA (r : ℕ) : sProp 𝕄 := if 2 ≤ r then leaving d L mf mc X (r % 2) (r - 2) else free d L (r % 2)
def slotB (r : ℕ) : sProp 𝕄 := if 1 ≤ r then leaving d L mf mc X ((r + 1) % 2) (r - 1) else free d L ((r + 1) % 2)
def gone (r : ℕ) : sProp 𝕄 := if 2 ≤ r then done d L mf mc X (r - 2) else iprop(emp)
def dones (r : ℕ) : sProp 𝕄 := bigSep (Finset.range (r - 2)) (done d L mf mc X)
def todos (r n : ℕ) : sProp 𝕄 := bigSep (Finset.Ico r n) (todo d L gf gc)

omit [FloatOps F] in
theorem slotB_succ (r : ℕ) : slotA d L mf mc X (r + 1) = slotB d L mf mc X r := by
  unfold slotA slotB
  by_cases h : 1 ≤ r
  · rw [if_pos h, if_pos (show 2 ≤ r + 1 by omega), show r + 1 - 2 = r - 1 by omega]
  · rw [if_neg h, if_neg (show ¬ 2 ≤ r + 1 by omega)]

omit [FloatOps F] in
theorem slotB_of (r : ℕ) : leaving d L mf mc X (r % 2) r = slotB d L mf mc X (r + 1) := by
  unfold slotB
  rw [if_pos (show 1 ≤ r + 1 by omega), show (r + 1 + 1) % 2 = r % 2 by omega, show r + 1 - 1 = r by omega]

omit [FloatOps F] in
theorem dones_gone (r : ℕ) : iprop(dones d L mf mc X r ∗ gone d L mf mc X r) ⊢ dones d L mf mc X (r + 1) := by
  unfold dones gone
  by_cases h : 2 ≤ r
  · rw [if_pos h, show r + 1 - 2 = (r - 2) + 1 by omega, Finset.range_add_one, SparseCore.bigSep_insert' Finset.notMem_range_self]
    iintro ⟨H, H'⟩
    isplitl [H']; · iexact H'
    iexact H
  · rw [if_neg h, show r + 1 - 2 = r - 2 by omega]
    iintro ⟨H, -⟩
    iexact H

omit [FloatOps F] in
theorem todos_take {r n : ℕ} (h : r < n) : todos d L gf gc r n ⊢ iprop(todo d L gf gc r ∗ todos d L gf gc (r + 1) n) := by
  unfold todos
  have e : Finset.Ico r n = insert r (Finset.Ico (r + 1) n) := by
    ext x; simp only [Finset.mem_insert, Finset.mem_Ico]; omega
  rw [e, SparseCore.bigSep_insert' (by simp)]

theorem wp_waitSlot (t : Fin (k0_t1_loop L).trips) {k : Pg (F := F) L Unit} {Φ : Unit → sProp 𝕄} :
    iprop(slotA d L mf mc X t.val ∗ owing d L O W ∗ MW d L O)
      ⊢ iprop((iprop(gone d L mf mc X t.val ∗ free d L (t.val % 2) ∗ owing d L O W) -∗ Run d L k Φ) -∗ Run d L (waitOut L t k) Φ) := by
  unfold waitOut slotA gone
  by_cases h : 2 ≤ t.val
  · rw [dif_pos ((c_late L t).mpr h), if_pos h, if_pos h]
    by_cases hp : t.val % 2 = 0
    · have n : ¬ isW (v30 L t) 1#32 = 1#1 := fun h' => by have := (c_odd L t).mp h'; omega
      have hs : outSem (t.val % 2) = cc0_scratch4.sem := by rw [hp]; rfl
      rw [dif_pos ((c_even L t).mpr hp), dif_neg n]
      exact wp_waitOut (k := fun _ => k) d L mf mc X hs
    · have n : ¬ isW (v30 L t) 0#32 = 1#1 := fun h' => hp ((c_even L t).mp h')
      have hp : t.val % 2 = 1 := by omega
      have hs : outSem (t.val % 2) = cc0_scratch5.sem := by rw [hp]; rfl
      rw [dif_neg n, dif_pos ((c_odd L t).mpr hp)]
      exact wp_waitOut (k := fun _ => k) d L mf mc X hs
  · rw [dif_neg (fun h' => h ((c_late L t).mp h')), if_neg h, if_neg h]
    iintro ⟨H, HO, -⟩ Hk
    iapply Hk
    isplitr; · iempintro
    isplitl [H]; · iexact H
    iexact HO

omit [FloatOps F] in
theorem off_wid (r : ℕ) : 64 * (L 1).val + 32 * (L 0).val + r = 32 * wid L + r := by unfold wid; omega

omit [FloatOps F] in
theorem wid_of_trip (t : Fin (k0_t1_loop L).trips) (h : ¬ t.val < 32) : wid L < 24 := by
  have h1 := t.isLt
  have h2 := trips_eq L
  split at h2
  · assumption
  · omega

theorem wp_send (t : Fin (k0_t1_loop L).trips) {k : Pg (F := F) L Unit} {Φ : Unit → sProp 𝕄} :
    iprop(todo d L gf gc t.val ∗ (oLoc d L ↦[rowO (t.val % 2)]{fullShare} smpRow mf mc X (wid L) t.val) ∗ semVal (outCell d L (t.val % 2)) 0)
      ⊢ iprop((leaving d L mf mc X (t.val % 2) t.val -∗ Run d L k Φ) -∗ Run d L (send0 L t (send1 L t k)) Φ) := by
  have eF : ∀ (o : Fin 3 → ℕ), o = ![(64 * (L 1).val + 32 * (L 0).val + t.val) / 128, (64 * (L 1).val + 32 * (L 0).val + t.val) % 128, 0]
      → o = ![(32 * wid L + t.val) / 128, (32 * wid L + t.val) % 128, 0] := fun o h => by rw [h, off_wid]
  have h11 := eF _ (k0_off11_eq L t)
  have h13 := eF _ (k0_off13_eq L t)
  have h12 : k0_off12 L = ![wid L / 3, wid L % 3, 0] := k0_off12_eq L
  have h14 : k0_off14 L = ![wid L / 3, wid L % 3, 0] := k0_off14_eq L
  unfold send0 send1
  by_cases hp : t.val % 2 = 0
  · have n9 : ¬ k0_cond9 L t = 1#1 := fun h' => by have := (c9 L t).mp h'; omega
    have h' : (![0, 0] : Fin 2 → ℕ) = ![t.val % 2, 0] := by rw [hp]
    have hs : outSem (t.val % 2) = cc0_scratch4.sem := by rw [hp]; rfl
    rw [dif_pos ((c6 L t).mpr hp), dif_neg n9]
    by_cases hr : t.val < 32
    · rw [dif_pos ((c7 L t).mpr hr), dif_neg (fun h' => (c8 L t).mp h' hr)]
      exact wp_outF (k := fun _ => k) d L mf mc X gf gc h11 h' hr (Nat.mod_lt _ (by decide)) hs
    · rw [dif_neg (fun h' => hr ((c7 L t).mp h')), dif_pos ((c8 L t).mpr hr)]
      exact wp_outC (k := fun _ => k) d L mf mc X gf gc h12 h' (wid_of_trip L t hr) hr (Nat.mod_lt _ (by decide)) hs
  · have n6 : ¬ k0_cond6 L t = 1#1 := fun h' => hp ((c6 L t).mp h')
    have hp : t.val % 2 = 1 := by omega
    have h' : (![1, 0] : Fin 2 → ℕ) = ![t.val % 2, 0] := by rw [hp]
    have hs : outSem (t.val % 2) = cc0_scratch5.sem := by rw [hp]; rfl
    rw [dif_neg n6, dif_pos ((c9 L t).mpr hp)]
    by_cases hr : t.val < 32
    · rw [dif_pos ((c10 L t).mpr hr), dif_neg (fun h' => (c11 L t).mp h' hr)]
      exact wp_outF (k := fun _ => k) d L mf mc X gf gc h13 h' hr (Nat.mod_lt _ (by decide)) hs
    · rw [dif_neg (fun h' => hr ((c10 L t).mp h')), dif_pos ((c11 L t).mpr hr)]
      exact wp_outC (k := fun _ => k) d L mf mc X gf gc h14 h' (wid_of_trip L t hr) hr (Nat.mod_lt _ (by decide)) hs

theorem wp_readRowF {r : ℕ} (hr : r < 32) {o0 o1 o2 o3 : Fin 3 → ℕ} {i0 i1 i2 i3}
    (e0 : o0 = ![(32 * wid L + r) / 128, (32 * wid L + r) % 128, 16384 * 0]) (e1 : o1 = ![(32 * wid L + r) / 128, (32 * wid L + r) % 128, 16384 * 1])
    (e2 : o2 = ![(32 * wid L + r) / 128, (32 * wid L + r) % 128, 16384 * 2]) (e3 : o3 = ![(32 * wid L + r) / 128, (32 * wid L + r) % 128, 16384 * 3])
    {α : Type} {k : Pg (F := F) L α} {Φ : α → sProp 𝕄} :
    idle d L mf mc ⊢ iprop((loading d L mf mc r -∗ Run d L k Φ) -∗ Run d L (readRowF L o0 o1 o2 o3 i0 i1 i2 i3 k) Φ) := by
  iintro H Hk
  imod (idle_open d L mf mc r) $$ H with ⟨HB, HR, ⟨S0, S1, S2, S3⟩, D0, D1, D2, D3⟩
  iapply (wp_startF d L mf mc (j := 0) e0 rfl hr (by decide)) $$ [S0 D0 HB]
  · isplitl [S0]; · iexact S0
    isplitl [D0]; · iexact D0
    iexact HB
  iintro HB
  iapply (wp_startF d L mf mc (j := 1) e1 rfl hr (by decide)) $$ [S1 D1 HB]
  · isplitl [S1]; · iexact S1
    isplitl [D1]; · iexact D1
    iexact HB
  iintro HB
  iapply (wp_startF d L mf mc (j := 2) e2 rfl hr (by decide)) $$ [S2 D2 HB]
  · isplitl [S2]; · iexact S2
    isplitl [D2]; · iexact D2
    iexact HB
  iintro HB
  iapply (wp_startF d L mf mc (j := 3) e3 rfl hr (by decide)) $$ [S3 D3 HB]
  · isplitl [S3]; · iexact S3
    isplitl [D3]; · iexact D3
    iexact HB
  iintro HB
  iapply Hk
  unfold loading
  isplitl [HB]; · iexact HB
  iexact HR

theorem wp_readRowC {r : ℕ} (hw : wid L < 24) (hr : ¬ r < 32) {o0 o1 o2 o3 : Fin 3 → ℕ} {i0 i1 i2 i3}
    (e0 : o0 = ![wid L / 3, wid L % 3, 16384 * 0]) (e1 : o1 = ![wid L / 3, wid L % 3, 16384 * 1])
    (e2 : o2 = ![wid L / 3, wid L % 3, 16384 * 2]) (e3 : o3 = ![wid L / 3, wid L % 3, 16384 * 3])
    {α : Type} {k : Pg (F := F) L α} {Φ : α → sProp 𝕄} :
    idle d L mf mc ⊢ iprop((loading d L mf mc r -∗ Run d L k Φ) -∗ Run d L (readRowC L o0 o1 o2 o3 i0 i1 i2 i3 k) Φ) := by
  iintro H Hk
  imod (idle_open d L mf mc r) $$ H with ⟨HB, HR, ⟨S0, S1, S2, S3⟩, D0, D1, D2, D3⟩
  iapply (wp_startC d L mf mc (j := 0) e0 rfl hw hr (by decide)) $$ [S0 D0 HB]
  · isplitl [S0]; · iexact S0
    isplitl [D0]; · iexact D0
    iexact HB
  iintro HB
  iapply (wp_startC d L mf mc (j := 1) e1 rfl hw hr (by decide)) $$ [S1 D1 HB]
  · isplitl [S1]; · iexact S1
    isplitl [D1]; · iexact D1
    iexact HB
  iintro HB
  iapply (wp_startC d L mf mc (j := 2) e2 rfl hw hr (by decide)) $$ [S2 D2 HB]
  · isplitl [S2]; · iexact S2
    isplitl [D2]; · iexact D2
    iexact HB
  iintro HB
  iapply (wp_startC d L mf mc (j := 3) e3 rfl hw hr (by decide)) $$ [S3 D3 HB]
  · isplitl [S3]; · iexact S3
    isplitl [D3]; · iexact D3
    iexact HB
  iintro HB
  iapply Hk
  unfold loading
  isplitl [HB]; · iexact HB
  iexact HR

/-- The source row of trip `r` on its way, if there is a trip `r`. -/
def next (r : ℕ) : sProp 𝕄 := if r < (k0_t1_loop L).trips then loading d L mf mc r else idle d L mf mc

theorem wp_readNext (t : Fin (k0_t1_loop L).trips) {k : Pg (F := F) L Unit} {Φ : Unit → sProp 𝕄} :
    idle d L mf mc ⊢ iprop((next d L mf mc (t.val + 1) -∗ Run d L k Φ) -∗ Run d L (readNext L t k) Φ) := by
  unfold readNext next
  by_cases hn : t.val + 1 < (k0_t1_loop L).trips
  · rw [dif_pos ((c12 L t).mpr hn), if_pos hn]
    by_cases hr : t.val + 1 < 32
    · rw [dif_pos ((c13 L t).mpr hr), dif_neg (fun h' => (c14 L t).mp h' hr)]
      have e := off_wid L (t.val + 1)
      exact wp_readRowF d L mf mc hr (by rw [k0_off15_eq, ← e]; rfl) (by rw [k0_off16_eq, ← e]; rfl) (by rw [k0_off17_eq, ← e]; rfl) (by rw [k0_off18_eq, ← e]; rfl)
    · rw [dif_neg (fun h' => hr ((c13 L t).mp h')), dif_pos ((c14 L t).mpr hr)]
      exact wp_readRowC d L mf mc (wid_of_trip L ⟨t.val + 1, hn⟩ hr) hr (by rw [k0_off19_eq]; rfl) (by rw [k0_off20_eq]; rfl) (by rw [k0_off21_eq]; rfl) (by rw [k0_off22_eq]; rfl)
  · rw [dif_neg (fun h' => hn ((c12 L t).mp h')), if_neg hn]
    iintro H Hk
    iapply Hk
    iexact H

/-! ## The trip -/

/-- Between trips. -/
def between (r : ℕ) : sProp 𝕄 :=
  iprop((xLoc d L ↦{fullShare} X) ∗ next d L mf mc r ∗ slotA d L mf mc X r ∗ slotB d L mf mc X r
    ∗ dones d L mf mc X r ∗ todos d L gf gc r (k0_t1_loop L).trips ∗ owing d L O W ∗ MW d L O)

theorem trip_step (hX : ∀ y, (X y).toNat < 65536) (t : Fin (k0_t1_loop L).trips) (u : Unit) :
    between d L mf mc X gf gc O W t.val ⊢ Run d L (trip L t u) fun _ => between d L mf mc X gf gc O W (t.val + 1) := by
  rw [trip_eq]
  unfold between
  have en : (next d L mf mc t.val : sProp 𝕄) = loading d L mf mc t.val := by unfold next; rw [if_pos t.isLt]
  rw [en]
  iintro ⟨HX, HL, HA, HB, HD, HT, HO, #HM⟩
  iapply (wp_waitRow d L mf mc O W) $$ [HL HO]
  · isplitl [HL]; · iexact HL
    isplitl [HO]; · iexact HO
    iexact HM
  iintro ⟨HR, HS, HV, HO⟩
  iapply (wp_waitSlot d L mf mc X O W t) $$ [HA HO]
  · isplitl [HA]; · iexact HA
    isplitl [HO]; · iexact HO
    iexact HM
  unfold free
  iintro ⟨HG, ⟨⟨%g, HW⟩, HC⟩, HO⟩
  ihave HD := (dones_gone d L mf mc X t.val) $$ [HD HG]
  · isplitl [HD]; · iexact HD
    iexact HG
  iapply (Scf.wp_for_bind frame (wpE (defs₀ (F := F)) 𝒱₀ (tl d L) none) Set.univ _ _ _ k0_t2_ok () (pass L t)
    (fun j _ => sampling d L mf mc X t.val j) (fun j u => pass_step d L mf mc X hX t j u)) $$ [HX HR HW]
  · unfold sampling
    isplitl [HX]; · iexact HX
    isplitl [HR]; · iexact HR
    iexists g
    isplitr
    · ipureintro
      intro x _ h
      omega
    iexact HW
  iintro %u H
  ihave H := (sampled d L mf mc X t.val) $$ H
  icases H with ⟨HX, HR, HW⟩
  ihave HT := (todos_take d L gf gc t.isLt) $$ HT
  icases HT with ⟨H1, HT⟩
  iapply (wp_send d L mf mc X gf gc t) $$ [H1 HW HC]
  · isplitl [H1]; · iexact H1
    isplitl [HW]; · iexact HW
    iexact HC
  iintro HW
  iapply (wp_readNext d L mf mc t) $$ [HS HR HV]
  · unfold idle
    isplitl [HS]; · iexact HS
    isplitl [HR]; · iexists (srcRow mf mc (wid L) t.val); iexact HR
    iexact HV
  iintro HN
  unfold Run
  rw [wp_ret]; imodintro
  rw [slotB_succ, ← slotB_of]
  isplitl [HX]; · iexact HX
  isplitl [HN]; · iexact HN
  isplitl [HB]; · iexact HB
  isplitl [HW]; · iexact HW
  isplitl [HD]; · iexact HD
  isplitl [HT]; · iexact HT
  isplitl [HO]; · iexact HO
  iexact HM

end Trip

end Cert.Proof.Pool
-- ==== Proof.Body.lean ====
/-
  A tile's program from its start: the index table fetched, the first source row's copies started, the trips, the waits
  for the last two output rows.
-/
module

public import proofs.«01_k».proof.Proof.Trip
public import Idealize.ShloMosaic.Lib.LoopRemainder

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

section Body

variable [FloatOps F] (d : Dev nD) (L : grid0.Coords)
variable (mf : S8x128x65536.Idx → F .f32) (mc : S8x3x65536.Idx → F .f32) (X : S16384.Idx → BitVec 32)
variable (gf : S8x128x16384.Idx → F .f32) (gc : S8x3x16384.Idx → F .f32)
variable (O : CellTallies nD τ sig (HIx 1)) (W : Waits sig (HIx 1))

/-! ## The program -/

/-- The number of trips as the kernel computes it, its parity, the next number's. -/
abbrev v3 : BitVec 32 :=
  Scalar.select (Scalar.cmpi .slt (Scalar.addi (Scalar.muli (BitVec.ofNat 32 (L 1).val) 2#32) (BitVec.ofNat 32 (L 0).val)) 24#32) 33#32 32#32
abbrev v15 : BitVec 32 := Scalar.remsi (v3 L) 2#32
abbrev v23 : BitVec 32 := Scalar.remsi (Scalar.addi (v3 L) 1#32) 2#32

theorem e15 : ∀ L : grid0.Coords, isW (v15 L) 0#32 = 1#1 ↔ (k0_t1_loop L).trips % 2 = 0 := by decide +kernel
theorem o15 : ∀ L : grid0.Coords, isW (v15 L) 1#32 = 1#1 ↔ (k0_t1_loop L).trips % 2 = 1 := by decide +kernel
theorem e23 : ∀ L : grid0.Coords, isW (v23 L) 0#32 = 1#1 ↔ ((k0_t1_loop L).trips + 1) % 2 = 0 := by decide +kernel
theorem o23 : ∀ L : grid0.Coords, isW (v23 L) 1#32 = 1#1 ↔ ((k0_t1_loop L).trips + 1) % 2 = 1 := by decide +kernel

variable {α : Type}

/-- The index table into the tile's scratch. -/
abbrev fetch (k : Pg (F := F) L α) : Pg (F := F) L α :=
  .op (.enqueueDma iV (.here sI) (.dma cc0_scoped0.sem) (Memref.isWhole_whole _).wordExact (Memref.isWhole_whole _).wordExact ⟨Or.inl rfl, trivial⟩) fun _ =>
    .op (.waitDma2 cc0_scoped0.sem iV sI (Memref.isWhole_whole _).wordExact (Memref.isWhole_whole _).wordExact) fun _ => k

/-- The first source row's copies. -/
def readFirst (k : Pg (F := F) L α) : Pg (F := F) L α :=
  let k' := if h2 : k0_cond2 = 1#1 then
      readRowC L (k0_off5 L) (k0_off6 L) (k0_off7 L) (k0_off8 L) (k0_off5_inb L h2) (k0_off6_inb L h2) (k0_off7_inb L h2) (k0_off8_inb L h2) k
    else k
  if h1 : k0_cond1 = 1#1 then
    readRowF L (k0_off1 L) (k0_off2 L) (k0_off3 L) (k0_off4 L) (k0_off1_inb L h1) (k0_off2_inb L h1) (k0_off3_inb L h1) (k0_off4_inb L h1) k'
  else k'

/-- The wait for the output row of a parity. -/
def waitLast (v : BitVec 32) (k : Pg (F := F) L α) : Pg (F := F) L α :=
  let k' := if h1 : isW v 1#32 = 1#1 then waitO1 L k else k
  if h0 : isW v 0#32 = 1#1 then waitO0 L k' else k'

/-- The kernel, and its longest part, over their arguments. -/
abbrev part : Pg (F := F) L (Σ' (_ : BitVec 32), BitVec 32) :=
  k0_part3 (F := F) L fV (Memref.isWhole_whole _) cV (Memref.isWhole_whole _) iV (Memref.isWhole_whole _)
    ofV (Memref.isWhole_whole _) ocV (Memref.isWhole_whole _) sI (Memref.isWhole_whole _) sR (Memref.isWhole_whole _)
    sO (Memref.isWhole_whole _) cc0_scratch3 cc0_scratch4 cc0_scratch5 cc0_scoped0
abbrev kern : Pg (F := F) L PUnit :=
  cc0_k (F := F) L fV (Memref.isWhole_whole _) cV (Memref.isWhole_whole _) iV (Memref.isWhole_whole _)
    ofV (Memref.isWhole_whole _) ocV (Memref.isWhole_whole _) sI (Memref.isWhole_whole _) sR (Memref.isWhole_whole _)
    sO (Memref.isWhole_whole _) cc0_scratch3 cc0_scratch4 cc0_scratch5 cc0_scoped0

omit [FloatOps F] in
theorem no_rest (b : Fin (k0_t3_loop L).trips → Unit → Pg (F := F) L Unit) :
    Scf.Loop.for (k0_t3_loop L) (k0_t3_ok L) () b = .ret () :=
  Scf.for_eq_ret _ _ _ _ _ _ (Nat.le_zero.mp (k0_t3_abs L).2.1)

set_option maxRecDepth 65536 in
theorem part_eq : part (F := F) L
    = fetch L (readFirst L (Scf.Loop.for (k0_t1_loop L) (k0_t1_ok L) () (trip L) >>= fun _ =>
        waitLast L (v15 L) (.ret ⟨v23 L, Scalar.extui (Scalar.cmpi .eq (v23 L) 0#32)⟩))) := by
  unfold part readFirst waitLast
  rw [k0_part3_eq_skeleton]
  unfold k0_part3_skel
  simp only [Prog.lift, Prog.bind_op, Prog.bind_ret, Prog.pure_eq_ret, no_rest]

/-- The kernel after its longest part. -/
def rest (r : Σ' (_ : BitVec 32), BitVec 32) : Pg (F := F) L PUnit :=
  let k' := if h1 : isW r.1 1#32 = 1#1 then waitO1 L (.ret ⟨⟩) else .ret ⟨⟩
  if h0 : Scalar.cmpi .ne r.2 0#32 = 1#1 then waitO0 L k' else k'

theorem rest_eq (v : BitVec 32) : rest (F := F) L ⟨v, Scalar.extui (Scalar.cmpi .eq v 0#32)⟩ = waitLast L v (.ret ⟨⟩) := rfl

set_option maxRecDepth 65536 in
theorem kern_eq : kern (F := F) L = part (F := F) L >>= rest L := by
  unfold kern rest
  rw [cc0_k_eq_skeleton]
  unfold cc0_k_skel
  simp only [Prog.lift, Prog.bind_op, Prog.bind_ret, Prog.pure_eq_ret]

/-! ## Its run -/

theorem wp_waitLast {p r : ℕ} {v : BitVec 32} (h0 : isW v 0#32 = 1#1 ↔ p = 0) (h1 : isW v 1#32 = 1#1 ↔ p = 1) (hp : p < 2)
    {k : Pg (F := F) L α} {Φ : α → sProp 𝕄} :
    iprop(leaving d L mf mc X p r ∗ owing d L O W ∗ MW d L O)
      ⊢ iprop((iprop(done d L mf mc X r ∗ free d L p ∗ owing d L O W) -∗ Run d L k Φ) -∗ Run d L (waitLast L v k) Φ) := by
  unfold waitLast
  by_cases h : p = 0
  · have n : ¬ isW v 1#32 = 1#1 := fun h' => by have := h1.mp h'; omega
    have hs : outSem p = cc0_scratch4.sem := by rw [h]; rfl
    rw [dif_pos (h0.mpr h), dif_neg n]
    exact wp_waitOut (k := fun _ => k) d L mf mc X hs
  · have n : ¬ isW v 0#32 = 1#1 := fun h' => h (h0.mp h')
    have h : p = 1 := by omega
    have hs : outSem p = cc0_scratch5.sem := by rw [h]; rfl
    rw [dif_neg n, dif_pos (h1.mpr h)]
    exact wp_waitOut (k := fun _ => k) d L mf mc X hs

abbrev NI : ℕ := sig.dmaCredit .scVector (Kind.scVector.table .vmem) (cc0_scratch0 : Ref sig .scVector).idx S16384 .i32
theorem NI_pos : 0 < NI := sig.dmaCredit_pos _ _ _ _ _ (by decide)
abbrev fetchCell : GSem nD τ sig := (tl d L, .dma cc0_scoped0.sem)

theorem wp_fetch {q : PosShare TreeShare} {k : Pg (F := F) L α} {Φ : α → sProp 𝕄} :
    iprop((iLoc d ↦{q} X) ∗ (∃ f, xLoc d L ↦{fullShare} f) ∗ semVal (fetchCell d L) 0 ∗ owing d L O W ∗ MW d L O)
      ⊢ iprop((iprop((iLoc d ↦{q} X) ∗ (xLoc d L ↦{fullShare} X) ∗ semVal (fetchCell d L) 0 ∗ owing d L O W) -∗ Run d L k Φ) -∗ Run d L (fetch L k) Φ) := by
  iintro ⟨HI, ⟨%f, HX⟩, HV, HO, HM⟩ Hk
  have hs : (iV.view.loc (tl d L) ↦[iV.view.set]{q} X : sProp 𝕄) = iLoc d ↦{q} X := by
    have e : iV.view.set = Finset.univ := View.set_whole _
    rw [e]
  iapply (Transfers.wp_dmaLocal (EC (F := F)) 𝒱₀ (tl d L) none (src := iV) (dst := sI) (q := q) (fs := X)
    (Sd := Finset.univ) (fd := f) (none : HIx 1) NI rfl NI_pos (Finset.subset_univ _)) $$ [HI HX HV]
  · isplitl [HI]
    · rw [hs]; iexact HI
    isplitl [HX]; · iexact HX
    iexact HV
  iintro HFl
  ihave HO := (owing_open d L) $$ HO
  icases HO with ⟨%W', %hW, HO⟩
  ihave HM := (Transfers.MayWaits.elim (.dma cc0_scoped0.sem)) $$ HM
  iapply (Transfers.wp_waitLocalO (EC (F := F)) 𝒱₀ (tl d L) none (none : HIx 1) rfl) $$ [HFl HO HM]
  · isplitl [HFl]; · iexact HFl
    isplitl [HO]; · iexact HO
    iexact HM
  iintro ⟨⟨HX, HI⟩, HV, HO⟩
  iapply Hk
  isplitl [HI]
  · rw [← hs]; iexact HI
  isplitl [HX]
  · have e : sI.view.write (Elt F) f (iV.view.read (Elt F) X) Finset.univ = X := View.write_whole_univ _ _ _
    ihave HX := (Entails.of_eq (congrArg (fun g => (xLoc d L ↦{fullShare} g : sProp 𝕄)) e)) $$ HX
    iexact HX
  isplitl [HV]; · iexact HV
  iapply (owing_insert d L hW (.dma cc0_scoped0.sem))
  iexact HO

theorem wp_readFirst {k : Pg (F := F) L α} {Φ : α → sProp 𝕄} :
    idle d L mf mc ⊢ iprop((loading d L mf mc 0 -∗ Run d L k Φ) -∗ Run d L (readFirst L k) Φ) := by
  unfold readFirst
  have n2 : ¬ k0_cond2 = 1#1 := by decide +kernel
  have p1 : k0_cond1 = 1#1 := by decide +kernel
  have e := off_wid L 0
  rw [dif_neg n2, dif_pos p1]
  exact wp_readRowF d L mf mc (by decide) (by rw [k0_off1_eq, ← e]; rfl) (by rw [k0_off2_eq, ← e]; rfl) (by rw [k0_off3_eq, ← e]; rfl) (by rw [k0_off4_eq, ← e]; rfl)

theorem trips_ge : 32 ≤ (k0_t1_loop L).trips := by
  have h := trips_eq L
  split at h <;> omega

theorem wp_lasts {p r p' r' : ℕ} {v v' : BitVec 32} (h0 : isW v 0#32 = 1#1 ↔ p = 0) (h1 : isW v 1#32 = 1#1 ↔ p = 1)
    (h0' : isW v' 0#32 = 1#1 ↔ p' = 0) (h1' : isW v' 1#32 = 1#1 ↔ p' = 1) (hp : p < 2) (hp' : p' < 2) {Φ : PUnit → sProp 𝕄} :
    iprop(leaving d L mf mc X p r ∗ leaving d L mf mc X p' r' ∗ owing d L O W ∗ MW d L O)
      ⊢ iprop((iprop(done d L mf mc X r ∗ free d L p ∗ done d L mf mc X r' ∗ free d L p' ∗ owing d L O W) -∗ Φ ⟨⟩)
        -∗ Run d L (waitLast L v (.ret ⟨v', Scalar.extui (Scalar.cmpi .eq v' 0#32)⟩)) fun r => Run d L (rest L r) Φ) := by
  iintro ⟨HA, HB, HO, #HM⟩ Hk
  iapply (wp_waitLast d L mf mc X O W h0 h1 hp) $$ [HA HO]
  · isplitl [HA]; · iexact HA
    isplitl [HO]; · iexact HO
    iexact HM
  iintro ⟨HdA, HfA, HO⟩
  unfold Run
  rw [wp_ret]; imodintro
  rw [rest_eq]
  iapply (wp_waitLast d L mf mc X O W h0' h1' hp') $$ [HB HO]
  · isplitl [HB]; · iexact HB
    isplitl [HO]; · iexact HO
    iexact HM
  iintro ⟨HdB, HfB, HO⟩
  unfold Run
  rw [wp_ret]; imodintro
  iapply Hk
  isplitl [HdA]; · iexact HdA
  isplitl [HfA]; · iexact HfA
  isplitl [HdB]; · iexact HdB
  isplitl [HfB]; · iexact HfB
  iexact HO

omit [FloatOps F] in
theorem between_last {n : ℕ} (hn : n = (k0_t1_loop L).trips) (h : 2 ≤ n) : between d L mf mc X gf gc O W n
    ⊢ iprop((xLoc d L ↦{fullShare} X) ∗ idle d L mf mc ∗ leaving d L mf mc X (n % 2) (n - 2)
      ∗ leaving d L mf mc X ((n + 1) % 2) (n - 1) ∗ dones d L mf mc X n ∗ owing d L O W) := by
  unfold between next slotA slotB
  rw [if_neg (show ¬ n < (k0_t1_loop L).trips from hn ▸ lt_irrefl _), if_pos h, if_pos (show 1 ≤ n by omega)]
  iintro ⟨HX, HI, HA, HB, HD, -, HO, -⟩
  isplitl [HX]; · iexact HX
  isplitl [HI]; · iexact HI
  isplitl [HA]; · iexact HA
  isplitl [HB]; · iexact HB
  isplitl [HD]; · iexact HD
  iexact HO

omit [FloatOps F] in
theorem dones_all (n : ℕ) (h : 2 ≤ n) : iprop(dones d L mf mc X n ∗ done d L mf mc X (n - 2) ∗ done d L mf mc X (n - 1))
    ⊢ bigSep (Finset.range n) (done d L mf mc X) := by
  obtain ⟨n, rfl⟩ : ∃ k, n = k + 2 := ⟨n - 2, by omega⟩
  unfold dones
  rw [show n + 2 - 2 = n by omega, show n + 2 - 1 = n + 1 by omega, Finset.range_add_one, SparseCore.bigSep_insert' Finset.notMem_range_self,
    Finset.range_add_one, SparseCore.bigSep_insert' Finset.notMem_range_self]
  iintro ⟨H, H0, H1⟩
  isplitl [H1]; · iexact H1
  isplitl [H0]; · iexact H0
  iexact H

omit [FloatOps F] in
theorem free_both (n : ℕ) : iprop(free d L (n % 2) ∗ free d L ((n + 1) % 2)) ⊢ (iprop(free d L 0 ∗ free d L 1) : sProp 𝕄) := by
  by_cases h : n % 2 = 0
  · rw [h, show (n + 1) % 2 = 1 by omega]
  · rw [show n % 2 = 1 by omega, show (n + 1) % 2 = 0 by omega]
    iintro ⟨H1, H0⟩
    isplitl [H0]; · iexact H0
    iexact H1

/-- What a tile holds at the end. -/
def ended (q : PosShare TreeShare) : sProp 𝕄 :=
  iprop((iLoc d ↦{q} X) ∗ (∃ f, xLoc d L ↦{fullShare} f) ∗ semVal (fetchCell d L) 0 ∗ idle d L mf mc
        ∗ free d L 0 ∗ free d L 1 ∗ bigSep (Finset.range (k0_t1_loop L).trips) (done d L mf mc X) ∗ owing d L O W)

theorem last_run {q : PosShare TreeShare} {v v' : BitVec 32} {n : ℕ} (hn : n = (k0_t1_loop L).trips) (hn' : 2 ≤ n)
    (h0 : isW v 0#32 = 1#1 ↔ n % 2 = 0) (h1 : isW v 1#32 = 1#1 ↔ n % 2 = 1)
    (h0' : isW v' 0#32 = 1#1 ↔ (n + 1) % 2 = 0) (h1' : isW v' 1#32 = 1#1 ↔ (n + 1) % 2 = 1) :
    iprop((iLoc d ↦{q} X) ∗ semVal (fetchCell d L) 0 ∗ between d L mf mc X gf gc O W n ∗ MW d L O)
      ⊢ Run d L (waitLast L v (.ret ⟨v', Scalar.extui (Scalar.cmpi .eq v' 0#32)⟩)) fun r => Run d L (rest L r) fun _ => ended d L mf mc X O W q := by
  unfold ended
  rw [← hn]
  iintro ⟨HI, HV, H, #HM⟩
  ihave H := (between_last d L mf mc X gf gc O W hn hn') $$ H
  icases H with ⟨HX, HS, HA, HB, HD, HO⟩
  iapply (wp_lasts d L mf mc X O W h0 h1 h0' h1' (Nat.mod_lt _ (by decide)) (Nat.mod_lt _ (by decide))) $$ [HA HB HO]
  · isplitl [HA]; · iexact HA
    isplitl [HB]; · iexact HB
    isplitl [HO]; · iexact HO
    iexact HM
  iintro ⟨HdA, HfA, HdB, HfB, HO⟩
  ihave Hf := (free_both d L n) $$ [HfA HfB]
  · isplitl [HfA]; · iexact HfA
    iexact HfB
  icases Hf with ⟨H0, H1⟩
  ihave HD := (dones_all d L mf mc X n hn') $$ [HD HdA HdB]
  · isplitl [HD]; · iexact HD
    isplitl [HdA]; · iexact HdA
    iexact HdB
  isplitl [HI]; · iexact HI
  isplitl [HX]; · iexists X; iexact HX
  isplitl [HV]; · iexact HV
  isplitl [HS]; · iexact HS
  isplitl [H0]; · iexact H0
  isplitl [H1]; · iexact H1
  isplitl [HD]; · iexact HD
  iexact HO

theorem kern_run (hX : ∀ y, (X y).toNat < 65536) {q : PosShare TreeShare} :
    iprop((iLoc d ↦{q} X) ∗ (∃ f, xLoc d L ↦{fullShare} f) ∗ semVal (fetchCell d L) 0 ∗ idle d L mf mc ∗ free d L 0 ∗ free d L 1
        ∗ todos d L gf gc 0 (k0_t1_loop L).trips ∗ owing d L O W ∗ MW d L O)
      ⊢ Run d L (kern L) fun _ => ended d L mf mc X O W q := by
  rw [kern_eq, part_eq]
  have h0 := e15 L
  have h1 := o15 L
  have h0' := e23 L
  have h1' := o23 L
  generalize v15 L = v at *
  generalize v23 L = v' at *
  unfold Run
  rw [wp_bind]
  iintro ⟨HI, HX, HV, HS, H0, H1, HT, HO, #HM⟩
  iapply (wp_fetch d L X O W) $$ [HI HX HV HO]
  · isplitl [HI]; · iexact HI
    isplitl [HX]; · iexact HX
    isplitl [HV]; · iexact HV
    isplitl [HO]; · iexact HO
    iexact HM
  iintro ⟨HI, HX, HV, HO⟩
  iapply (wp_readFirst d L mf mc) $$ [HS]
  · iexact HS
  iintro HL
  iapply (Scf.wp_for_bind frame (wpE (defs₀ (F := F)) 𝒱₀ (tl d L) none) Set.univ _ _ _ (k0_t1_ok L) () (trip L)
    (fun r _ => between d L mf mc X gf gc O W r) (fun t u => trip_step d L mf mc X gf gc O W hX t u)) $$ [HX HL H0 H1 HT HO]
  · unfold between next slotA slotB dones
    rw [if_pos (show 0 < (k0_t1_loop L).trips from lt_of_lt_of_le (by decide) (trips_ge L)), if_neg (by decide), if_neg (by decide)]
    isplitl [HX]; · iexact HX
    isplitl [HL]; · iexact HL
    isplitl [H0]; · iexact H0
    isplitl [H1]; · iexact H1
    isplitr
    · rw [show Finset.range (0 - 2) = ∅ from rfl, bigSep_empty]; iempintro
    isplitl [HT]; · iexact HT
    isplitl [HO]; · iexact HO
    iexact HM
  iintro %u H
  iapply (last_run d L mf mc X gf gc O W rfl (le_trans (by decide) (trips_ge L)) h0 h1 h0' h1')
  isplitl [HI]; · iexact HI
  isplitl [HV]; · iexact HV
  isplitl [H]; · iexact H
  iexact HM

end Body

end Cert.Proof.Pool
-- ==== Proof.Pieces.lean ====
/-
  The arrays cut into the tiles' pieces and put together again: a tile's rows of the results, the output scratch's two
  rows, each whole array over the 32 tiles, the index table as 32 reading shares.
-/
module

public import proofs.«01_k».proof.Proof.Body

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

/-! ## A tile's results from its rows -/

section Rows

variable (d : Dev nD) (gf : S8x128x16384.Idx → F .f32) (gc : S8x3x16384.Idx → F .f32)

theorem tileOF_rows (w : ℕ) : (Finset.range 32).biUnion (fun r => rowOF (32 * w + r)) = tileOF w := by
  ext x
  simp only [rowOF, tileOF, Finset.mem_biUnion, Finset.mem_range, Finset.mem_filter, Finset.mem_univ, true_and]
  constructor
  · rintro ⟨r, hr, h⟩; omega
  · intro h; exact ⟨(128 * (x 0).val + (x 1).val) % 32, Nat.mod_lt _ (by decide), by omega⟩

theorem rowOF_disj (w : ℕ) : ∀ r ∈ Finset.range 32, ∀ r' ∈ Finset.range 32, r ≠ r' → Disjoint (rowOF (32 * w + r)) (rowOF (32 * w + r')) := by
  intro r _ r' _ h
  refine Finset.disjoint_left.mpr fun x => ?_
  simp only [rowOF, Finset.mem_filter, Finset.mem_univ, true_and]
  omega

theorem rowOC_none {w : ℕ} (h : ¬ w < 24) : rowOC w = ∅ := by
  ext x
  have h0 : (x 0).val < 8 := (x 0).isLt
  have h1 : (x 1).val < 3 := (x 1).isLt
  simp only [rowOC, Finset.mem_filter, Finset.mem_univ, true_and, Finset.notMem_empty, iff_false]
  omega

theorem swap (A B : sProp 𝕄) : iprop(A ∗ B) = iprop(B ∗ A) := by
  refine equiv_iff.mp ⟨?_, ?_⟩
  · show A ∗ B ⊢ B ∗ A
    iintro ⟨HA, HB⟩
    isplitl [HB]; · iexact HB
    iexact HA
  · show B ∗ A ⊢ A ∗ B
    iintro ⟨HB, HA⟩
    isplitl [HA]; · iexact HA
    iexact HB

theorem rows_upto (w : ℕ) :
    (bigSep (Finset.range 32) fun r => if r < 32 then (ofLoc d ↦[rowOF (32 * w + r)]{fullShare} gf : sProp 𝕄) else ocLoc d ↦[rowOC w]{fullShare} gc)
      = (ofLoc d ↦[tileOF w]{fullShare} gf) := by
  rw [bigSep_congr fun r hr => if_pos (Finset.mem_range.mp hr), ← tileOF_rows w]
  exact (pointsTo_biUnion (ℓ := ofLoc d) (Finset.range 32) (fun r => rowOF (32 * w + r)) (rowOF_disj w)).symm

/-- The rows of a tile's trips are its 32 rows of the features' result and its row, if it has one, of the coordinates'. -/
theorem rows_eq (w : ℕ) :
    (bigSep (Finset.range (if w < 24 then 33 else 32)) fun r =>
        if r < 32 then (ofLoc d ↦[rowOF (32 * w + r)]{fullShare} gf : sProp 𝕄) else ocLoc d ↦[rowOC w]{fullShare} gc)
      = iprop((ofLoc d ↦[tileOF w]{fullShare} gf) ∗ ocLoc d ↦[rowOC w]{fullShare} gc) := by
  by_cases h : w < 24
  · rw [if_pos h, show Finset.range 33 = insert 32 (Finset.range 32) from Finset.range_add_one, SparseCore.bigSep_insert' Finset.notMem_range_self,
      rows_upto, if_neg (lt_irrefl 32)]
    exact swap _ _
  · rw [if_neg h, rows_upto, rowOC_none h, pointsTo_empty]
    exact (sep_emp_eq _).symm

theorem todos_eq (L : grid0.Coords) : (todos d L gf gc 0 (k0_t1_loop L).trips : sProp 𝕄)
    = iprop((ofLoc d ↦[tileOF (wid L)]{fullShare} gf) ∗ ocLoc d ↦[rowOC (wid L)]{fullShare} gc) := by
  rw [trips_eq, ← rows_eq]
  unfold todos todo
  rw [← Finset.range_eq_Ico]

theorem ended_rows (L : grid0.Coords) (mf : S8x128x65536.Idx → F .f32) (mc : S8x3x65536.Idx → F .f32) (X : S16384.Idx → BitVec 32) :
    (bigSep (Finset.range (k0_t1_loop L).trips) (done d L mf mc X) : sProp 𝕄)
      = iprop((ofLoc d ↦[tileOF (wid L)]{fullShare} outF mf X) ∗ ocLoc d ↦[rowOC (wid L)]{fullShare} outC mc X) := by
  rw [trips_eq, ← rows_eq]
  unfold done
  rfl

end Rows

/-! ## The output scratch from its two rows -/

section Scratch

variable (d : Dev nD) (L : grid0.Coords)

theorem rowO_one : Finset.univ \ rowO 0 = rowO 1 := by
  ext x
  have h0 : (x 0).val < 2 := (x 0).isLt
  simp only [rowO, Finset.mem_sdiff, Finset.mem_filter, Finset.mem_univ, true_and]
  omega

theorem out_split (g : Buf (Elt F) (oLoc d L)) :
    (oLoc d L ↦{fullShare} g : sProp 𝕄) ⊢ iprop((oLoc d L ↦[rowO 0]{fullShare} g) ∗ oLoc d L ↦[rowO 1]{fullShare} g) := by
  have h := (pointsTo_split_subset (ℓ := oLoc d L) (q := fullShare) (f := g) (Finset.subset_univ (rowO 0)) : _ ⊣⊢ (_ : sProp 𝕄)).1
  rw [rowO_one] at h
  exact h

theorem out_join (g g' : Buf (Elt F) (oLoc d L)) :
    iprop((oLoc d L ↦[rowO 0]{fullShare} g) ∗ oLoc d L ↦[rowO 1]{fullShare} g') ⊢ (iprop(∃ f, oLoc d L ↦{fullShare} f) : sProp 𝕄) := by
  have e0 : (oLoc d L ↦[rowO 0]{fullShare} g : sProp 𝕄) = oLoc d L ↦[rowO 0]{fullShare} (fun x => if x ∈ rowO 0 then g x else g' x) :=
    pointsTo_congr fun x hx => (if_pos hx).symm
  have e1 : (oLoc d L ↦[rowO 1]{fullShare} g' : sProp 𝕄) = oLoc d L ↦[rowO 1]{fullShare} (fun x => if x ∈ rowO 0 then g x else g' x) :=
    pointsTo_congr fun x hx => (if_neg (by rw [← rowO_one] at hx; exact (Finset.mem_sdiff.mp hx).2)).symm
  rw [e0, e1]
  iintro H
  iexists _
  have h := (pointsTo_split_subset (ℓ := oLoc d L) (q := fullShare) (f := fun x => if x ∈ rowO 0 then g x else g' x)
    (Finset.subset_univ (rowO 0)) : _ ⊣⊢ (_ : sProp 𝕄)).2
  rw [rowO_one] at h
  iapply h; iexact H

end Scratch

/-! ## The whole arrays from the tiles' pieces -/

/-- The number of the tile on subcore `i` of SparseCore `c`. -/
abbrev num (c : Fin 2) (i : Fin 16) : ℕ := 2 * i.val + c.val

/-- An array cut by a numbering of its elements below 32, each tile holding the elements of its number. -/
theorem whole_tiles {ℓ : Loc nD τ sig} (N : Idx ℓ → ℕ) (hN : ∀ x, N x < 32) (Kt : ℕ → Finset (Idx ℓ)) (hK : ∀ w x, x ∈ Kt w ↔ N x = w)
    (f : Buf (Elt F) ℓ) :
    (ℓ ↦{fullShare} f : sProp 𝕄) = bigSep Finset.univ fun c : Fin 2 => bigSep Finset.univ fun i : Fin 16 => ℓ ↦[Kt (num c i)]{fullShare} f := by
  have h1 : ∀ c : Fin 2, (bigSep Finset.univ fun i : Fin 16 => (ℓ ↦[Kt (num c i)]{fullShare} f : sProp 𝕄))
      = ℓ ↦[(Finset.univ : Finset (Fin 16)).biUnion fun i => Kt (num c i)]{fullShare} f := fun c =>
    (pointsTo_biUnion Finset.univ (fun i : Fin 16 => Kt (num c i)) fun i _ i' _ h => Finset.disjoint_left.mpr fun x hx hx' => by
      have a := (hK _ _).mp hx; have b := (hK _ _).mp hx'
      exact h (Fin.ext (by simp only [num] at a b; omega))).symm
  rw [bigSep_congr fun c _ => h1 c, ← pointsTo_biUnion Finset.univ (fun c : Fin 2 => (Finset.univ : Finset (Fin 16)).biUnion fun i => Kt (num c i))]
  · congr 1
    ext x
    simp only [Finset.mem_univ, Finset.mem_biUnion, true_and, true_iff]
    refine ⟨⟨N x % 2, Nat.mod_lt _ (by decide)⟩, ⟨N x / 2, by have := hN x; omega⟩, (hK _ _).mpr ?_⟩
    show N x = 2 * (N x / 2) + N x % 2
    omega
  · intro c _ c' _ h
    refine Finset.disjoint_left.mpr fun x hx hx' => h ?_
    obtain ⟨i, -, hi⟩ := Finset.mem_biUnion.mp hx
    obtain ⟨i', -, hi'⟩ := Finset.mem_biUnion.mp hx'
    have a := (hK _ _).mp hi; have b := (hK _ _).mp hi'
    apply Fin.ext
    have := c.isLt; have := c'.isLt
    simp only [num] at a b
    omega

section Arrays

variable (d : Dev nD)

theorem f_tiles (f : Buf (Elt F) (fLoc d)) : (fLoc d ↦{fullShare} f : sProp 𝕄)
    = bigSep Finset.univ fun c : Fin 2 => bigSep Finset.univ fun i : Fin 16 => fLoc d ↦[tileF (num c i)]{fullShare} f :=
  whole_tiles (ℓ := fLoc d) (fun x : S8x128x65536.Idx => (128 * (x 0).val + (x 1).val) / 32)
    (fun x => by have h0 : (x 0).val < 8 := (x 0).isLt; have h1 : (x 1).val < 128 := (x 1).isLt; show _ < 32; omega) tileF
    (fun w x => by simp only [tileF, Finset.mem_filter, Finset.mem_univ, true_and]) f
theorem c_tiles (f : Buf (Elt F) (cLoc d)) : (cLoc d ↦{fullShare} f : sProp 𝕄)
    = bigSep Finset.univ fun c : Fin 2 => bigSep Finset.univ fun i : Fin 16 => cLoc d ↦[rowC (num c i)]{fullShare} f :=
  whole_tiles (ℓ := cLoc d) (fun x : S8x3x65536.Idx => 3 * (x 0).val + (x 1).val)
    (fun x => by have h0 : (x 0).val < 8 := (x 0).isLt; have h1 : (x 1).val < 3 := (x 1).isLt; show _ < 32; omega) rowC
    (fun w x => by simp only [rowC, Finset.mem_filter, Finset.mem_univ, true_and]) f
theorem of_tiles (f : Buf (Elt F) (ofLoc d)) : (ofLoc d ↦{fullShare} f : sProp 𝕄)
    = bigSep Finset.univ fun c : Fin 2 => bigSep Finset.univ fun i : Fin 16 => ofLoc d ↦[tileOF (num c i)]{fullShare} f :=
  whole_tiles (ℓ := ofLoc d) (fun x : S8x128x16384.Idx => (128 * (x 0).val + (x 1).val) / 32)
    (fun x => by have h0 : (x 0).val < 8 := (x 0).isLt; have h1 : (x 1).val < 128 := (x 1).isLt; show _ < 32; omega) tileOF
    (fun w x => by simp only [tileOF, Finset.mem_filter, Finset.mem_univ, true_and]) f
theorem oc_tiles (f : Buf (Elt F) (ocLoc d)) : (ocLoc d ↦{fullShare} f : sProp 𝕄)
    = bigSep Finset.univ fun c : Fin 2 => bigSep Finset.univ fun i : Fin 16 => ocLoc d ↦[rowOC (num c i)]{fullShare} f :=
  whole_tiles (ℓ := ocLoc d) (fun x : S8x3x16384.Idx => 3 * (x 0).val + (x 1).val)
    (fun x => by have h0 : (x 0).val < 8 := (x 0).isLt; have h1 : (x 1).val < 3 := (x 1).isLt; show _ < 32; omega) rowOC
    (fun w x => by simp only [rowOC, Finset.mem_filter, Finset.mem_univ, true_and]) f

/-- The index table's reading share of the tile on subcore `i` of SparseCore `c`. -/
def shr (c : Fin 2) (i : Fin 16) : PosShare TreeShare := Transfers.dealOf (Transfers.dealOf fullShare Finset.univ c) Finset.univ i

theorem i_tiles (X : Buf (Elt F) (iLoc d)) : (iLoc d ↦{fullShare} X : sProp 𝕄)
    = bigSep Finset.univ fun c : Fin 2 => bigSep Finset.univ fun i : Fin 16 => iLoc d ↦{shr c i} X := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

variable (mf : S8x128x65536.Idx → F .f32) (mc : S8x3x65536.Idx → F .f32) (X : S16384.Idx → BitVec 32)
variable (gf : S8x128x16384.Idx → F .f32) (gc : S8x3x16384.Idx → F .f32)

/-- What the tile on subcore `i` of SparseCore `c` is handed, and hands back: its share of the index table, its rows of
    the features and the coordinates, its rows of the two results. -/
def piece (c : Fin 2) (i : Fin 16) : sProp 𝕄 :=
  iprop((iLoc d ↦{shr c i} X) ∗ (fLoc d ↦[tileF (num c i)]{fullShare} mf) ∗ (cLoc d ↦[rowC (num c i)]{fullShare} mc)
    ∗ (ofLoc d ↦[tileOF (num c i)]{fullShare} gf) ∗ ocLoc d ↦[rowOC (num c i)]{fullShare} gc)

instance piece_storable (c : Fin 2) (i : Fin 16) : Storable (upEmb : UEmb _ 𝕄) (piece d mf mc X gf gc c i) := by unfold piece; infer_instance

theorem pieces_eq : (bigSep Finset.univ fun c : Fin 2 => bigSep Finset.univ fun i : Fin 16 => (piece d mf mc X gf gc c i : sProp 𝕄))
    = iprop((iLoc d ↦{fullShare} X) ∗ (fLoc d ↦{fullShare} mf) ∗ (cLoc d ↦{fullShare} mc) ∗ (ofLoc d ↦{fullShare} gf) ∗ ocLoc d ↦{fullShare} gc) := by
  rw [i_tiles, f_tiles, c_tiles, of_tiles, oc_tiles]
  unfold piece
  simp only [bigSep_sep']

end Arrays

end Cert.Proof.Pool
-- ==== Proof.Launch.lean ====
/-
  The launch: what the handshakes carry, each tile's task, @main on the TensorCore, and the whole program's run — it
  terminates with the arguments unchanged, the results at the sample's places and every semaphore back at zero.
-/
module

public import proofs.«01_k».proof.Proof.Pieces

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

variable [FloatOps F]

/-! ## The table, and what the handshakes carry -/

/-- The index table @main writes. -/
def tbl : S16384.Idx → BitVec 32 := fun i => lit0 (S16384.rowMajor i)

theorem lit0_lt : ∀ k, (lit0 k).toNat < 65536 := by decide +kernel

theorem tbl_lt (y : S16384.Idx) : (tbl y).toNat < 65536 := lit0_lt _

variable (m : (ℓ : Loc nD τ sig) → Buf (Elt F) ℓ) (ρ : Dev nD → PrngReg)

/-- A tile's piece before the call, and after it. -/
abbrev before (d : Dev nD) (c : Fin 2) (i : Fin 16) : sProp 𝕄 := piece d (m (fLoc d)) (m (cLoc d)) tbl (m (ofLoc d)) (m (ocLoc d)) c i
abbrev after (d : Dev nD) (c : Fin 2) (i : Fin 16) : sProp 𝕄 :=
  piece d (m (fLoc d)) (m (cLoc d)) tbl (outF (m (fLoc d)) tbl) (outC (m (cLoc d)) tbl) c i

/-- Each SparseCore is handed its tiles' pieces, each tile its piece. -/
def P : (K (F := F)).Pay (nD := nD) (Val := Elt F) (Name := ℕ) (U := UU) where
  st := fun q d c => match q with | 0 => bigSep Finset.univ fun i : Fin 16 => before m d (Fin.cast nCore_zero c) i
  dn := fun q d c => match q with | 0 => bigSep Finset.univ fun i : Fin 16 => after m d (Fin.cast nCore_zero c) i
  go := fun q d c i => match q with | 0 => before m d (Fin.cast nCore_zero c) (Fin.cast nSub_zero i)
  td := fun q d c i => match q with | 0 => after m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => before m d (Fin.cast nCore_zero c) i))
  dn q d c := match q with
    | 0 => (inferInstance : BI.Storable (upEmb : UEmb _ 𝕄) (bigSep Finset.univ fun i : Fin 16 => after m d (Fin.cast nCore_zero c) i))
  go q d c i := match q with
    | 0 => (inferInstance : BI.Storable (upEmb : UEmb _ 𝕄) (before m d (Fin.cast nCore_zero c) (Fin.cast nSub_zero i)))
  td q d c i := match q with
    | 0 => (inferInstance : BI.Storable (upEmb : UEmb _ 𝕄) (after m d (Fin.cast nCore_zero c) (Fin.cast nSub_zero i)))

/-! ## The task -/

section Tile

variable (d : Dev nD) (L : grid0.Coords)

/-- The tile's semaphores of the kernel, and the others it has. -/
theorem ownSems0_tl :
    (ownSems0 (tl d L) : sProp 𝕄)
      = iprop(semVal (inCell d L) 0 ∗ semVal (outCell d L 0) 0 ∗ semVal (outCell d L 1) 0 ∗ semVal (fetchCell d L) 0
          ∗ bigSep (((((ownCells (tl d L)).erase (inCell d L)).erase (outCell d L 0)).erase (outCell d L 1)).erase (fetchCell d L)) fun g => semVal g 0) := by
  have hs : ∀ (s : DmaSem sig), (SemLoc.dma s : SemLoc sig).isScoped .scVector = true → ((tl d L, SemLoc.dma s) : GSem nD τ sig) ∈ ownCells (tl d L) :=
    fun s h => mem_ownCells.mpr ⟨rfl, h⟩
  have hne : ∀ {s s' : DmaSem sig}, s ≠ s' → ((tl d L, SemLoc.dma s) : GSem nD τ sig) ≠ (tl d L, SemLoc.dma s') :=
    fun h e => h (SemLoc.dma.inj (Prod.mk.inj e).2)
  have n01 : (cc0_scratch4.sem : DmaSem sig) ≠ cc0_scratch3.sem := by decide
  have n02 : (cc0_scratch5.sem : DmaSem sig) ≠ cc0_scratch3.sem := by decide
  have n03 : (cc0_scoped0.sem : DmaSem sig) ≠ cc0_scratch3.sem := by decide
  have n12 : (cc0_scratch5.sem : DmaSem sig) ≠ cc0_scratch4.sem := by decide
  have n13 : (cc0_scoped0.sem : DmaSem sig) ≠ cc0_scratch4.sem := by decide
  have n23 : (cc0_scoped0.sem : DmaSem sig) ≠ cc0_scratch5.sem := by decide
  have m0 := hs cc0_scratch3.sem (by decide)
  have m1 : outCell d L 0 ∈ (ownCells (tl d L)).erase (inCell d L) := Finset.mem_erase.mpr ⟨hne n01, hs cc0_scratch4.sem (by decide)⟩
  have m2 : outCell d L 1 ∈ ((ownCells (tl d L)).erase (inCell d L)).erase (outCell d L 0) :=
    Finset.mem_erase.mpr ⟨hne n12, Finset.mem_erase.mpr ⟨hne n02, hs cc0_scratch5.sem (by decide)⟩⟩
  have m3 : fetchCell d L ∈ (((ownCells (tl d L)).erase (inCell d L)).erase (outCell d L 0)).erase (outCell d L 1) :=
    Finset.mem_erase.mpr ⟨hne n23, Finset.mem_erase.mpr ⟨hne n13, Finset.mem_erase.mpr ⟨hne n03, hs cc0_scoped0.sem (by decide)⟩⟩⟩
  unfold SparseCore.Cfg.ownSems0
  rw [SparseCore.bigSep_erase' m0, SparseCore.bigSep_erase' m1, SparseCore.bigSep_erase' m2, SparseCore.bigSep_erase' m3]

/-- The tile's buffers of the kernel, and the others it has. -/
theorem ownBufs_tl :
    (ownBufs (tl d L) : sProp 𝕄)
      = iprop((∃ f, xLoc d L ↦{fullShare} f) ∗ (∃ f, rLoc d L ↦{fullShare} f) ∗ (∃ f, oLoc d L ↦{fullShare} f)
          ∗ bigSep ((((ownRefs (τ := τ) (.scVector (core L) (sub L))).erase ((Proc.scVector (core L) (sub L)).devRef cc0_scratch0)).erase
              ((Proc.scVector (core L) (sub L)).devRef cc0_scratch1)).erase ((Proc.scVector (core L) (sub L)).devRef cc0_scratch2))
              fun b => iprop(∃ f, ((d, b) : Loc nD τ sig) ↦{fullShare} f)) := by
  have hne : ∀ {s s' : Ref sig .scVector}, s ≠ s' → (Proc.scVector (core L) (sub L)).devRef s ≠ (Proc.scVector (core L) (sub L)).devRef s' :=
    fun h e => h (Proc.devRef_injective _ e)
  have n10 : (cc0_scratch1 : Ref sig .scVector) ≠ cc0_scratch0 := by decide
  have n20 : (cc0_scratch2 : Ref sig .scVector) ≠ cc0_scratch0 := by decide
  have n21 : (cc0_scratch2 : Ref sig .scVector) ≠ cc0_scratch1 := by decide
  have m0 := SparseCore.Cfg.mem_ownRefs_of_owner (p := Proc.scVector (core L) (sub L)) (b := (Proc.scVector (core L) (sub L)).devRef cc0_scratch0) rfl
  have m1 := Finset.mem_erase.mpr ⟨hne n10,
    SparseCore.Cfg.mem_ownRefs_of_owner (p := Proc.scVector (core L) (sub L)) (b := (Proc.scVector (core L) (sub L)).devRef cc0_scratch1) rfl⟩
  have m2 := Finset.mem_erase.mpr ⟨hne n21, Finset.mem_erase.mpr ⟨hne n20,
    SparseCore.Cfg.mem_ownRefs_of_owner (p := Proc.scVector (core L) (sub L)) (b := (Proc.scVector (core L) (sub L)).devRef cc0_scratch2) rfl⟩⟩
  unfold SparseCore.Cfg.ownBufs
  refine (SparseCore.bigSep_erase' m0).trans ?_
  rw [SparseCore.bigSep_erase' m1, SparseCore.bigSep_erase' m2]

/-- The task on the tile: its piece comes back with the results' rows written. -/
theorem tile_body (hF : (K (F := F)).Facts) (O : CellTallies nD τ sig (HIx 1)) (W : Waits sig (HIx 1)) (hO : ∀ g, O g none = 0)
    (c : Fin 2) (i : Fin 16) (hw : num c i = wid L) :
    iprop(levAts (K (F := F)).L (K (F := F)).lev ∗ emp ∗ before m d c i ∗ scopedBufs (tl d L) ∗ scopedSems0 (tl d L) ∗ owes (tl d L) O W)
      ⊢ Run d L (kern L) fun _ => iprop(after m d c i ∗ scopedBufs (tl d L) ∗ scopedSems0 (tl d L)
          ∗ ∃ W', ⌜∀ p ∈ W', p ∈ W ∨ p.2 = none⌝ ∗ owes (tl d L) O W') := by
  rw [(K (F := F)).scopedBufs_V hF d (core L) (sub L), SparseCore.Cfg.scopedSems0_V (Val := Elt F) d (core L) (sub L), ownSems0_tl, ownBufs_tl]
  unfold before after piece
  rw [hw]
  iintro ⟨Hlev, -, ⟨HI, HF, HC, HOF, HOC⟩, ⟨HX, HR, ⟨%g, HG⟩, Hbufs⟩, ⟨HS, H0, H1, HV, Hsems⟩, HO⟩
  ihave HM := ((K (F := F)).mayWaits_none (thr := tl d L) hO) $$ Hlev
  ihave HG := (out_split d L g) $$ HG
  icases HG with ⟨HG0, HG1⟩
  ihave HT := (Entails.of_eq (todos_eq d (m (ofLoc d)) (m (ocLoc d)) L).symm) $$ [HOF HOC]
  · isplitl [HOF]; · iexact HOF
    iexact HOC
  ihave HRun := (kern_run d L (m (fLoc d)) (m (cLoc d)) tbl (m (ofLoc d)) (m (ocLoc d)) O W tbl_lt (q := shr c i)) $$ [HI HX HV HF HC HR HS HG0 H0 HG1 H1 HT HO HM]
  · isplitl [HI]; · iexact HI
    isplitl [HX]; · iexact HX
    isplitl [HV]; · iexact HV
    isplitl [HF HC HR HS]
    · unfold idle srcAll
      isplitl [HF HC]
      · isplitl [HF]; · iexact HF
        iexact HC
      isplitl [HR]; · iexact HR
      iexact HS
    isplitl [HG0 H0]
    · unfold free
      isplitl [HG0]; · iexists g; iexact HG0
      iexact H0
    isplitl [HG1 H1]
    · unfold free
      isplitl [HG1]; · iexists g; iexact HG1
      iexact H1
    isplitl [HT]; · iexact HT
    isplitl [HO]
    · unfold owing
      iexists W; isplitr
      · ipureintro; exact fun p hp => .inl hp
      · iexact HO
    iexact HM
  unfold Run
  iapply (wp_wand frame _ _) $$ HRun
  iintro %u HE
  unfold ended idle srcAll free owing
  rw [ended_rows]
  icases HE with ⟨HI, HX, HV, ⟨⟨HF, HC⟩, HR, HS⟩, ⟨⟨%g0, HG0⟩, H0⟩, ⟨⟨%g1, HG1⟩, H1⟩, ⟨HOF, HOC⟩, HO⟩
  isplitl [HI HF HC HOF HOC]
  · isplitl [HI]; · iexact HI
    isplitl [HF]; · iexact HF
    isplitl [HC]; · iexact HC
    isplitl [HOF]; · iexact HOF
    iexact HOC
  isplitl [HX HR HG0 HG1 Hbufs]
  · isplitl [HX]; · iexact HX
    isplitl [HR]; · iexact HR
    isplitl [HG0 HG1]
    · iapply (out_join d L g0 g1)
      isplitl [HG0]; · iexact HG0
      iexact HG1
    iexact Hbufs
  isplitl [HS H0 H1 HV Hsems]
  · isplitl [HS]; · iexact HS
    isplitl [H0]; · iexact H0
    isplitl [H1]; · iexact H1
    isplitl [HV]; · iexact HV
    iexact Hsems
  iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => kern (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO (Fin.cast nCore_zero c) (Fin.cast nSub_zero i) rfl).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun i : Fin 16 => before m d (Fin.cast nCore_zero c) i) ⊢ |={Set.univ}=> iprop(
      (bigSep Finset.univ fun i : Fin ((K (F := F)).nSub 0) => before m d (Fin.cast nCore_zero c) (Fin.cast nSub_zero i))
      ∗ ((bigSep Finset.univ fun i : Fin ((K (F := F)).nSub 0) => after m d (Fin.cast nCore_zero c) (Fin.cast nSub_zero i))
          -∗ bigSep Finset.univ fun i : Fin 16 => after m d (Fin.cast nCore_zero c) i))
  rw [bigSep_tasks (F := F) (fun i => before m d (Fin.cast nCore_zero c) i), bigSep_tasks (F := F) (fun i => after m d (Fin.cast nCore_zero c) i)]
  iintro H; imodintro
  isplitl [H]; · iexact H
  iintro H; iexact H

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev f' : DevRef τ sig := Proc.devRef .tc (main_arg0 : Ref sig .tc)
abbrev c' : DevRef τ sig := Proc.devRef .tc (main_arg1 : Ref sig .tc)
abbrev i' : DevRef τ sig := Proc.devRef .tc (main_c : Ref sig .tc)
abbrev of' : DevRef τ sig := Proc.devRef .tc (main_v0_0 : Ref sig .tc)
abbrev oc' : DevRef τ sig := Proc.devRef .tc (main_v0_1 : Ref sig .tc)
abbrev opT : HloOp τ sig (Elt F) := StableHlo.nullary main_c (fun i => lit0 (S16384.rowMajor i))

/-- The TensorCore's arrays. -/
abbrev S5 : Finset (DevRef τ sig) := {i', f', c', of', oc'}

theorem held_S5 (d : Dev nD) (W : Valuation τ sig (Elt F)) :
    (StableHlo.held (T d) S5 W : sProp 𝕄) = iprop((iLoc d ↦{fullShare} W i') ∗ (fLoc d ↦{fullShare} W f') ∗ (cLoc d ↦{fullShare} W c')
      ∗ (ofLoc d ↦{fullShare} W of') ∗ ocLoc d ↦{fullShare} W oc') := by
  unfold StableHlo.held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((iLoc d ↦{fullShare} W main_c) ∗ (fLoc d ↦{fullShare} W main_arg0) ∗ (cLoc d ↦{fullShare} W main_arg1)
      ∗ (ofLoc d ↦{fullShare} W main_v0_0) ∗ ocLoc d ↦{fullShare} W main_v0_1) := by
  unfold unscopedBufs
  rw [show (Finset.univ.filter fun b : Ref sig .tc => ¬ b.isScoped) = {main_c, main_arg0, main_arg1, main_v0_0, main_v0_1} by decide,
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = StableHlo.held (T d) S5 (V0 m d) := by
  rw [unscopedBufs_eq, held_S5]; rfl

/-- After the constant: the table in its array, the rest as launched. -/
theorem held_table (d : Dev nD) :
    (StableHlo.held (T d) S5 ((opT (F := F)).result (V0 m d)) : sProp 𝕄)
      = iprop((iLoc d ↦{fullShare} tbl) ∗ (fLoc d ↦{fullShare} m (fLoc d)) ∗ (cLoc d ↦{fullShare} m (cLoc d))
          ∗ (ofLoc d ↦{fullShare} m (ofLoc d)) ∗ ocLoc d ↦{fullShare} m (ocLoc d)) := by
  have hn : ∀ b : DevRef τ sig, b ≠ i' → (opT (F := F)).result (V0 m d) b = V0 m d b := fun b hb =>
    HloOp.result_of_not_mem _ _ (fun h => hb (Finset.mem_singleton.mp h))
  have hi : (opT (F := F)).result (V0 m d) i' = tbl := by
    first | rfl | (simp only [HloOp.result]; rfl)
  rw [held_S5, hi, hn f' (by decide), hn c' (by decide), hn of' (by decide), hn oc' (by decide)]
  rfl

theorem st0_eq (d : Dev nD) : (bigSep Finset.univ fun c : Fin ((K (F := F)).nCore 0) => (P m).st 0 d c)
    = iprop((iLoc d ↦{fullShare} tbl) ∗ (fLoc d ↦{fullShare} m (fLoc d)) ∗ (cLoc d ↦{fullShare} m (cLoc d))
          ∗ (ofLoc d ↦{fullShare} m (ofLoc d)) ∗ ocLoc d ↦{fullShare} m (ocLoc d)) :=
  (bigSep_cores (F := F) fun c => bigSep Finset.univ fun i : Fin 16 => before m d c i).trans (pieces_eq d _ _ _ _ _)
theorem dn0_eq (d : Dev nD) : (bigSep Finset.univ fun c : Fin ((K (F := F)).nCore 0) => (P m).dn 0 d c)
    = iprop((iLoc d ↦{fullShare} tbl) ∗ (fLoc d ↦{fullShare} m (fLoc d)) ∗ (cLoc d ↦{fullShare} m (cLoc d))
          ∗ (ofLoc d ↦{fullShare} outF (m (fLoc d)) tbl) ∗ ocLoc d ↦{fullShare} outC (m (cLoc d)) tbl) :=
  (bigSep_cores (F := F) fun c => bigSep Finset.univ fun i : Fin 16 => after m d c i).trans (pieces_eq d _ _ _ _ _)

theorem hTab : (opT (F := F)).bufs ⊆ S5 := show ({i'} : Finset (DevRef τ sig)) ⊆ S5 by decide

/-- What @main leaves the claim: the arguments as launched, the results at the sample's places. -/
abbrev FIN (d : Dev nD) : sProp 𝕄 :=
  iprop((fLoc d ↦{fullShare} m (fLoc d)) ∗ (cLoc d ↦{fullShare} m (cLoc d))
    ∗ (ofLoc d ↦{fullShare} outF (m (fLoc d)) tbl) ∗ ocLoc d ↦{fullShare} outC (m (cLoc d)) tbl)

/-- @main on device `d`'s TensorCore: the table's constant, the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (StableHlo.wp_hlo_within 𝒱 (SparseCore.T d) none Set.univ (op := opT) (S := S5) hTab (V := V0 m d)) $$ [Hb Hheld]
  · isplitl [Hb]; · iexact Hb
    iexact Hheld
  iintro ⟨Hb, Hheld⟩
  rw [wp_ret]; imodintro
  ihave Hh := (Entails.of_eq (held_table m d)) $$ Hheld
  iapply ((K (F := F)).wp_run (D (F := F)) 𝒱 (EH := EH) (P := P m) κ d 0) $$ [Hst Hh Hb Hts]
  isplitr; · iexact Hctx
  isplitl [Hst]; · iexact Hst
  isplitl [Hh]
  · rw [st0_eq]; iexact Hh
  iintro ⟨Hst, Hdn⟩
  ihave Hdn' := (Entails.of_eq (dn0_eq m d)) $$ Hdn
  icases Hdn' with ⟨-, HF⟩
  imodintro
  isplitl [Hst]; · iexact Hst
  isplitr [Hb Hts]
  · iexact HF
  isplitl [Hb] <;> iassumption

def fq (d : Dev nD) (s' : Phys nD τ sig (Elt F)) : Prop :=
  s'.mem.mem (fLoc d) = m (fLoc d) ∧ s'.mem.mem (cLoc d) = m (cLoc d)
    ∧ s'.mem.mem (ofLoc d) = outF (m (fLoc d)) tbl ∧ s'.mem.mem (ocLoc d) = outC (m (cLoc d)) tbl

theorem hfin (d : Dev nD) (s' : Phys nD τ sig (Elt F)) : iprop(FIN m d ∗ SI s') ⊢ (⌜fq m d s'⌝ : sProp 𝕄) := by
  iintro ⟨⟨HF, HC, HOF, HOC⟩, HSI⟩
  ihave H := (persistent_entails_right (SI_pointsTo_agree (st := s') (ℓ := fLoc d) (I := Finset.univ) (q := fullShare) (f := m (fLoc d)))) $$ [HSI HF]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI HC]
  · isplitl [HSI] <;> iassumption
  icases H with ⟨%h2, HSI, -⟩
  ihave H := (persistent_entails_right (SI_pointsTo_agree (st := s') (ℓ := ofLoc d) (I := Finset.univ) (q := fullShare)
    (f := outF (m (fLoc d)) tbl))) $$ [HSI HOF]
  · isplitl [HSI] <;> iassumption
  icases H with ⟨%h3, HSI, -⟩
  ihave H := (SI_pointsTo_agree (st := s') (ℓ := ocLoc d) (I := Finset.univ) (q := fullShare) (f := outC (m (cLoc d)) tbl)) $$ [HSI HOC]
  · isplitl [HSI] <;> iassumption
  icases H with %h4
  ipureintro
  exact ⟨funext fun i => h1 i (Finset.mem_univ i), funext fun i => h2 i (Finset.mem_univ i), funext fun i => h3 i (Finset.mem_univ i),
    funext fun i => h4 i (Finset.mem_univ i)⟩

/-! ## The program's run -/

def QC : PUnit × MemSt nD τ sig (Elt F) → Prop := fun r =>
  (∀ d : Dev nD, r.2.mem (fLoc d) = m (fLoc d) ∧ r.2.mem (cLoc d) = m (cLoc d)
    ∧ r.2.mem (ofLoc d) = outF (m (fLoc d)) tbl ∧ r.2.mem (ocLoc d) = outC (m (cLoc d)) tbl) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Pool
-- ==== Proof.Frames.lean ====
/-
  The frames of the kernel, as it runs on words and as it is read over the extended reals.
-/
module

public import proofs.«01_k».proof.Proof.Launch
public import proofs.«01_k».proof.Proof.Gen.Kernel

@[expose] public section

noncomputable section

namespace Cert.Proof.Pool

open Idealize.ShloMosaic Idealize.SL.Sem

theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

end Cert.Proof.Pool

end
-- ==== Proof.Reference.lean ====
/-
  The reference's two results are the gathers `outF` and `outC`, and the claims that speak of the reference.
-/
module

public import proofs.«01_k».proof.Proof.Launch
public import proofs.«01_k».proof.Proof.Gen.ReferenceIdeal.Run
public import Idealize.ShloMosaic.Lib.ReduceAll
public import Idealize.ShloMosaic.Lib.Quiescent

@[expose] public section

noncomputable section

namespace Cert.Proof.Pool

open Cert.ReferenceIdeal Cert.ReferenceIdeal.Gen
open Idealize.ShloMosaic Idealize.ShloMosaic.TcCoe Idealize.SL.Sem
open Idealize.ShloMosaic.ValueIdx

variable {F : FTy → Type} [FloatOps F]

/-- A word below 65536 is not negative when read signed. -/
theorem slt_zero_of_lt {b : BitVec 32} (h : b.toNat < 65536) : IntOp.cmpi .slt b 0#32 = 0#1 := by
  simp only [IntOp.cmpi]
  have : b.slt 0#32 = false := by
    rw [BitVec.slt_eq_decide]
    simp only [decide_eq_false_iff_not, BitVec.toInt_eq_toNat_cond, BitVec.toNat_ofNat, Nat.reducePow, Nat.reduceMod]; omega
  rw [this]; rfl

theorem sge_zero_of_lt {b : BitVec 32} (h : b.toNat < 65536) : IntOp.cmpi .sge b 0#32 = 1#1 := by
  simp only [IntOp.cmpi]
  have : (0#32).sle b = true := by
    rw [BitVec.sle_eq_decide]
    simp only [decide_eq_true_eq, BitVec.toInt_eq_toNat_cond, BitVec.toNat_ofNat, Nat.reducePow, Nat.reduceMod]; omega
  rw [this]; rfl

theorem sle_top_of_lt {b : BitVec 32} (h : b.toNat < 65536) : IntOp.cmpi .sle b 65535#32 = 1#1 := by
  simp only [IntOp.cmpi]
  have : b.sle 65535#32 = true := by
    rw [BitVec.sle_eq_decide]
    simp only [decide_eq_true_eq, BitVec.toInt_eq_toNat_cond, BitVec.toNat_ofNat, Nat.reducePow, Nat.reduceMod]; omega
  rw [this]; rfl

theorem toInt_min_of_lt {b : BitVec 32} (h : b.toNat < 65536) : min b.toInt.toNat 65535 = b.toNat % 65536 := by
  simp only [BitVec.toInt_eq_toNat_cond, Nat.reducePow]; omega

variable {X : S16384.Idx → BitVec 32}

/-- The reference's reading of a negative position from the far end changes no position of the table. -/
theorem wrap_eq (hX : ∀ y, (X y).toNat < 65536) :
    select (cmpi .slt X (broadcastInDim S16384 ![] bcast_S_S16384 (constantI S_ 32 0#32)))
      (addi X (broadcastInDim S16384 ![] bcast_S_S16384 (constantI S_ 32 65536#32))) X = X := by
  funext y
  show Scalar.select (IntOp.cmpi .slt (X y) 0#32) _ (X y) = X y
  rw [slt_zero_of_lt (hX y)]; rfl

/-- Every position of the table passes the reference's bounds test. -/
theorem mask_one (hX : ∀ y, (X y).toNat < 65536) (j : S16384.Idx) :
    Host.reduce IntOp.andi (andi (cmpi .sge (broadcastInDim S16384x1 ![0] bcast_S16384_S16384x1_0 X)
        (broadcastInDim S16384x1 ![] bcast_S_S16384x1 (constantI S_ 32 0#32)))
      (cmpi .sle (broadcastInDim S16384x1 ![0] bcast_S16384_S16384x1_0 X)
        (broadcastInDim S16384x1 ![0, 1] bcast_S1x1_S16384x1_0_1 (broadcastInDim S1x1 ![1] bcast_S1_S1x1_1 (constantI S1 32 65535#32)))))
      (constantI S_ 1 1#1) reducesTo_S16384x1_S16384_d1 h_S_ j = 1#1 := by
  refine Host.reduce_andi_one _ _ _ _ _ rfl fun i => ?_
  show IntOp.andi (IntOp.cmpi .sge (broadcastInDim S16384x1 ![0] bcast_S16384_S16384x1_0 X i) 0#32)
    (IntOp.cmpi .sle (broadcastInDim S16384x1 ![0] bcast_S16384_S16384x1_0 X i) 65535#32) = 1#1
  have h : (broadcastInDim S16384x1 ![0] bcast_S16384_S16384x1_0 X i).toNat < 65536 := hX _
  rw [sge_zero_of_lt h, sle_top_of_lt h]; rfl

/-- The table as a column, read at the row `y`. -/
theorem column_apply (i : S16384x1.Idx) :
    broadcastInDim S16384x1 ![0] bcast_S16384_S16384x1_0 X i = X (ix1 (n := 16384) (i 0)) := by
  unfold broadcastInDim
  congr 1; funext a; obtain rfl : a = 0 := Subsingleton.elim _ _
  rw [dif_neg (by decide)]; rfl

/-- The record of a gather of whole columns along the last of three axes: `C` rows to a batch. -/
def rowDims (C : ℕ) (wf : GatherDims.WF ⟨3, ![8, C, 65536]⟩ S16384x1 ⟨3, ![8, C, 16384]⟩ [0, 1] [2] [] [2] [] 1 ![8, C, 1]) :
    GatherDims ⟨3, ![8, C, 65536]⟩ S16384x1 ⟨3, ![8, C, 16384]⟩ where
  offsetDims := [0, 1]
  collapsedSliceDims := [2]
  operandBatchingDims := []
  startIndicesBatchingDims := []
  startIndexMap := [2]
  indexVectorDim := 1
  sliceSizes := ![8, C, 1]
  wf := wf

/-- Such a gather, read at an index: the operand's entry of the same batch and row at the table's position. -/
theorem gather_rows {α : Type} {C : ℕ} (wf : GatherDims.WF ⟨3, ![8, C, 65536]⟩ S16384x1 ⟨3, ![8, C, 16384]⟩ [0, 1] [2] [] [2] [] 1 ![8, C, 1])
    (hX : ∀ y, (X y).toNat < 65536) (f : (⟨3, ![8, C, 65536]⟩ : Shape).Idx → α) (x : (⟨3, ![8, C, 16384]⟩ : Shape).Idx) :
    Host.gather (rowDims C wf) f (broadcastInDim S16384x1 ![0] bcast_S16384_S16384x1_0 X) x
      = f (ix3 (n0 := 8) (n1 := C) (n2 := 65536) (x 0) (x 1) (pl (X (ix1 (n := 16384) (x 2))))) := by
  unfold Host.gather
  congr 1; funext a; refine Fin.ext ?_
  show (rowDims C wf).start x _ a + (rowDims C wf).batchCoord x a + (rowDims C wf).offCoord x a = _
  rw [GatherDims.batchCoord_eq_zero _ _ _ List.not_mem_nil]
  have keep : ∀ b : Fin 3, b ∉ [(2 : Fin 3)] → b ∈ (rowDims C wf).sKept ∧ b ∉ (rowDims C wf).startIndexMap :=
    fun b hb => ⟨(GatherDims.mem_sKept _ _).mpr ⟨hb, List.not_mem_nil⟩, hb⟩
  match a with
  | ⟨0, h0⟩ =>
    have h := keep ⟨0, h0⟩ (by simp)
    unfold GatherDims.start GatherDims.offCoord
    rw [dif_neg h.2, dif_pos h.1]
    exact (Nat.zero_add _)
  | ⟨1, h1⟩ =>
    have h := keep ⟨1, h1⟩ (by simp)
    unfold GatherDims.start GatherDims.offCoord
    rw [dif_neg h.2, dif_pos h.1]
    exact (Nat.zero_add _)
  | ⟨2, h2⟩ =>
    have h : (⟨2, h2⟩ : Fin 3) ∈ (rowDims C wf).startIndexMap := List.mem_singleton.mpr rfl
    rw [GatherDims.offCoord_eq_zero _ _ _ (fun h => ((GatherDims.mem_sKept _ _).mp h).1 (List.mem_singleton.mpr rfl))]
    unfold GatherDims.start
    rw [dif_pos h, column_apply]
    exact toInt_min_of_lt (hX _)

theorem gather_F (hX : ∀ y, (X y).toNat < 65536) (mf : S8x128x65536.Idx → F .f32) (x : S8x128x16384.Idx) :
    Host.gather gather_S8x128x65536_S16384x1_S8x128x16384_01_2_n_n_2_1_81281 mf
      (broadcastInDim S16384x1 ![0] bcast_S16384_S16384x1_0 X) x = outF mf X x :=
  gather_rows gather_S8x128x65536_S16384x1_S8x128x16384_01_2_n_n_2_1_81281_wf hX mf x

theorem gather_C (hX : ∀ y, (X y).toNat < 65536) (mc : S8x3x65536.Idx → F .f32) (x : S8x3x16384.Idx) :
    Host.gather gather_S8x3x65536_S16384x1_S8x3x16384_01_2_n_n_2_1_831 mc
      (broadcastInDim S16384x1 ![0] bcast_S16384_S16384x1_0 X) x = outC mc X x :=
  gather_rows gather_S8x3x65536_S16384x1_S8x3x16384_01_2_n_n_2_1_831_wf hX mc x

/-- A select whose bits, broadcast along the last axis, are all one takes its first operand. -/
theorem select_bcast {α : Type} {t : Shape} {dims : Fin 1 → Fin t.rank} (h : S16384.BroadcastsInDim t dims) (M : S16384.Idx → BitVec 1) (hM : ∀ j, M j = 1#1)
    (a b : t.Idx → α) : select (broadcastInDim t dims h M) a b = a := by
  funext x
  show Scalar.select (broadcastInDim t dims h M x) (a x) (b x) = a x
  rw [show broadcastInDim t dims h M x = 1#1 from hM _]; rfl

/-- The reference's run: its results are the gathers of its arguments through the kernel's table. -/
theorem run_reference (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = outF (m ((c.tc : Thread nD τ).loc main_arg0)) tbl
      ∧ r.2.mem ((c.tc : Thread nD τ).loc main_v0) = outC (m ((c.tc : Thread nD τ).loc main_arg1)) tbl
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have ht : (fun i => lit0 (S16384.rowMajor i)) = tbl := rfl
  have hr := Value.run m ρ
  rw [ht, wrap_eq tbl_lt] at hr
  refine (θ_run defs _ _).mono (fun r h c => ⟨(h c).1.trans ?_, (h c).2.1.trans ?_, (h c).2.2.1, (h c).2.2.2⟩) hr
  · exact (select_bcast _ _ (mask_one tbl_lt) _ _).trans (funext (gather_F tbl_lt _))
  · exact (select_bcast _ _ (mask_one tbl_lt) _ _).trans (funext (gather_C tbl_lt _))

theorem frame_reference : Cert.quiescent_ReferenceIdeal := fun m ρ _ =>
  (θ_run defs _ _).mono (fun r h => ⟨fun c => ⟨(h c).2.2.1, (h c).2.2.2⟩, sem_eq_zero_of_no_sems (by decide) r.2⟩)
    (run_reference (F := Ideal) m ρ)

theorem algebraic : Cert.algebraic_KernelIdeal_ReferenceIdeal := by
  intro m g m' g' _ hm
  refine ⟨fun c => outF (F := Ideal) (m (fLoc c)) tbl, fun c => outC (F := Ideal) (m (cLoc c)) tbl, ?_, ?_⟩
  · exact (θ_run Cert.KernelIdeal.defs _ _).mono
      (fun _ h c => ⟨(h.1 c).2.2.1, (h.1 c).2.2.2, (h.1 c).1, (h.1 c).2.1⟩) (run_main (F := Ideal) m g)
  · exact (θ_run defs _ _).mono
      (fun _ h c => ⟨(h c).1.trans (congrArg (outF (F := Ideal) · tbl) (hm c).1),
        (h c).2.1.trans (congrArg (outC (F := Ideal) · tbl) (hm c).2), (h c).2.2.1, (h c).2.2.2⟩) (run_reference (F := Ideal) m' g')

end Cert.Proof.Pool

end
-- ==== Proof.lean ====
/-
  The certificate: three frames, `preserves`, and the equality of the kernel's two results with the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Frames
public import proofs.«01_k».proof.Proof.Reference
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Pool.frame_kernel, Pool.frame_ideal, Pool.frame_reference, trivial, Pool.algebraic⟩

end Cert.Proof

end
